-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_capacity_KernelIdeal [hPre_capacity_KernelIdeal : Cert.Pre_capacity_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_capacity_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_capacity_ReferenceIdeal [hPre_capacity_ReferenceIdeal : Cert.Pre_capacity_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_capacity_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_capacity_KernelIdeal [hKernelIdeal : Cert.KernelIdeal.Facts] [hPre_capacity_KernelIdeal : Cert.Pre_capacity_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_capacity_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_capacity_ReferenceIdeal [hReferenceIdeal : Cert.ReferenceIdeal.Facts] [hPre_capacity_ReferenceIdeal : Cert.Pre_capacity_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_capacity_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_capacity_KernelIdeal [hKernelIdeal : Cert.KernelIdeal.Facts] [hReferenceIdeal : Cert.ReferenceIdeal.Facts] [hPre_capacity_KernelIdeal : Cert.Pre_capacity_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_capacity_KernelIdeal m →
    (∀ c : Dev Cert.KernelIdeal.nD,
      m ((c.tc : Thread Cert.KernelIdeal.nD Cert.KernelIdeal.τ).loc Cert.KernelIdeal.main_arg0) = Layout.blockN ⟨2, ![2048, 1024]⟩ ⟨2, ![4096, 1024]⟩ (Layout.meshBlock [2, 2, 2] ![[1], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨1, ![2048]⟩ ⟨1, ![4096]⟩ (Layout.meshBlock [2, 2, 2] ![[1]] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.blockN ⟨3, ![4, 1024, 2048]⟩ ⟨3, ![8, 1024, 2048]⟩ (Layout.meshBlock [2, 2, 2] ![[1], [], []] c) (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.blockN ⟨3, ![4, 2048, 1024]⟩ ⟨3, ![8, 2048, 1024]⟩ (Layout.meshBlock [2, 2, 2] ![[1], [], []] c) (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v96)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = Layout.blockN ⟨2, ![2048, 1024]⟩ ⟨2, ![4096, 1024]⟩ (Layout.meshBlock [2, 2, 2] ![[1], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v96) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_capacity_KernelIdeal : Cert.Pre_capacity_KernelIdeal.Facts) (hPre_capacity_ReferenceIdeal : Cert.Pre_capacity_ReferenceIdeal.Facts),
    quiescent_Kernel (hKernel := hKernel)
    ∧ quiescent_KernelIdeal (hKernelIdeal := hKernelIdeal)
    ∧ quiescent_KernelIdeal_pre_capacity_KernelIdeal (hKernelIdeal := hKernelIdeal) (hPre_capacity_KernelIdeal := hPre_capacity_KernelIdeal)
    ∧ quiescent_ReferenceIdeal (hReferenceIdeal := hReferenceIdeal)
    ∧ quiescent_ReferenceIdeal_pre_capacity_ReferenceIdeal (hReferenceIdeal := hReferenceIdeal) (hPre_capacity_ReferenceIdeal := hPre_capacity_ReferenceIdeal)
    ∧ preserves_Kernel_KernelIdeal
    ∧ algebraic_KernelIdeal_ReferenceIdeal_pre_capacity_KernelIdeal (hKernelIdeal := hKernelIdeal) (hReferenceIdeal := hReferenceIdeal) (hPre_capacity_KernelIdeal := hPre_capacity_KernelIdeal)
-- ==== Pre_capacity_KernelIdeal.lean ====
abbrev S2048x1024 : Shape := ⟨2, ![2048, 1024]⟩
abbrev S2048 : Shape := ⟨1, ![2048]⟩
abbrev S4x1024x2048 : Shape := ⟨3, ![4, 1024, 2048]⟩
abbrev S4x2048x1024 : Shape := ⟨3, ![4, 2048, 1024]⟩
abbrev S2048x1 : Shape := ⟨2, ![2048, 1]⟩
abbrev S8 : Shape := ⟨1, ![8]⟩
abbrev S1x8 : Shape := ⟨2, ![1, 8]⟩
abbrev S2048x8 : Shape := ⟨2, ![2048, 8]⟩
abbrev S_ : Shape := ⟨0, ![]⟩

class Facts : Prop where
  bcast_S2048_S2048x1_0 : S2048.BroadcastsInDim S2048x1 (![0] : Fin 1 → Fin S2048x1.rank)
  bcast_S8_S1x8_1 : S8.BroadcastsInDim S1x8 (![1] : Fin 1 → Fin S1x8.rank)
  bcast_S2048x1_S2048x8_0_1 : S2048x1.BroadcastsInDim S2048x8 (![0, 1] : Fin 2 → Fin S2048x8.rank)
  bcast_S1x8_S2048x8_0_1 : S1x8.BroadcastsInDim S2048x8 (![0, 1] : Fin 2 → Fin S2048x8.rank)
  natLt_1_32 : 1 < 32
  reducesTo_S2048x8_S8_d0 : S2048x8.ReducesTo [0] S8
  h_S_ : 0 < S_.numel
  bcast_S_S8 : S_.BroadcastsInDim S8 (![] : Fin 0 → Fin S8.rank)
  reducesTo_S8_S_d0 : S8.ReducesTo [0] S_

variable [Facts]

def fn {F : FTy → Type} [FloatOps F] (main_arg0 : FVec F S2048x1024 .f32) (main_arg1 : IVec S2048 32) (main_arg2 : FVec F S4x1024x2048 .f32) (main_arg3 : FVec F S4x2048x1024 .f32) : IVec S_ 1 :=
  let main_v0 : IVec S2048x1 32 := broadcastInDim S2048x1 ![0] bcast_S2048_S2048x1_0 main_arg1
  let main_v1 : IVec S8 32 := iotaInDim S8 32 0
  let main_v2 : IVec S1x8 32 := broadcastInDim S1x8 ![1] bcast_S8_S1x8_1 main_v1
  let main_v3 : IVec S2048x8 32 := broadcastInDim S2048x8 ![0, 1] bcast_S2048x1_S2048x8_0_1 main_v0
  let main_v4 : IVec S2048x8 32 := broadcastInDim S2048x8 ![0, 1] bcast_S1x8_S2048x8_0_1 main_v2
  let main_v5 : IVec S2048x8 1 := cmpi .eq main_v3 main_v4
  let main_v6 : IVec S2048x8 32 := (extui 32 · natLt_1_32) main_v5
  let main_c : IVec S_ 32 := constantI S_ 32 0#32
  let main_v7 : IVec S8 32 := (fun x v => Host.reduce IntOp.addi x v reducesTo_S2048x8_S8_d0 h_S_) main_v6 main_c
  let main_c_0 : IVec S_ 32 := constantI S_ 32 320#32
  let main_v8 : IVec S8 32 := broadcastInDim S8 ![] bcast_S_S8 main_c_0
  let main_v9 : IVec S8 1 := cmpi .sle main_v7 main_v8
  let main_c_1 : IVec S_ 1 := constantI S_ 1 1#1
  let main_v10 : IVec S_ 1 := (fun x v => Host.reduce IntOp.andi x v reducesTo_S8_S_d0 h_S_) main_v9 main_c_1
  main_v10
-- ==== Pre_capacity_ReferenceIdeal.lean ====
abbrev S4096x1024 : Shape := ⟨2, ![4096, 1024]⟩
abbrev S4096 : Shape := ⟨1, ![4096]⟩
abbrev S8x1024x2048 : Shape := ⟨3, ![8, 1024, 2048]⟩
abbrev S8x2048x1024 : Shape := ⟨3, ![8, 2048, 1024]⟩
abbrev S4096x1 : Shape := ⟨2, ![4096, 1]⟩
abbrev S8 : Shape := ⟨1, ![8]⟩
abbrev S1x8 : Shape := ⟨2, ![1, 8]⟩
abbrev S4096x8 : Shape := ⟨2, ![4096, 8]⟩
abbrev S_ : Shape := ⟨0, ![]⟩

class Facts : Prop where
  bcast_S4096_S4096x1_0 : S4096.BroadcastsInDim S4096x1 (![0] : Fin 1 → Fin S4096x1.rank)
  bcast_S8_S1x8_1 : S8.BroadcastsInDim S1x8 (![1] : Fin 1 → Fin S1x8.rank)
  bcast_S4096x1_S4096x8_0_1 : S4096x1.BroadcastsInDim S4096x8 (![0, 1] : Fin 2 → Fin S4096x8.rank)
  bcast_S1x8_S4096x8_0_1 : S1x8.BroadcastsInDim S4096x8 (![0, 1] : Fin 2 → Fin S4096x8.rank)
  natLt_1_32 : 1 < 32
  reducesTo_S4096x8_S8_d0 : S4096x8.ReducesTo [0] S8
  h_S_ : 0 < S_.numel
  bcast_S_S8 : S_.BroadcastsInDim S8 (![] : Fin 0 → Fin S8.rank)
  reducesTo_S8_S_d0 : S8.ReducesTo [0] S_

variable [Facts]

def fn {F : FTy → Type} [FloatOps F] (main_arg0 : FVec F S4096x1024 .f32) (main_arg1 : IVec S4096 32) (main_arg2 : FVec F S8x1024x2048 .f32) (main_arg3 : FVec F S8x2048x1024 .f32) : IVec S_ 1 :=
  let main_v0 : IVec S4096x1 32 := broadcastInDim S4096x1 ![0] bcast_S4096_S4096x1_0 main_arg1
  let main_v1 : IVec S8 32 := iotaInDim S8 32 0
  let main_v2 : IVec S1x8 32 := broadcastInDim S1x8 ![1] bcast_S8_S1x8_1 main_v1
  let main_v3 : IVec S4096x8 32 := broadcastInDim S4096x8 ![0, 1] bcast_S4096x1_S4096x8_0_1 main_v0
  let main_v4 : IVec S4096x8 32 := broadcastInDim S4096x8 ![0, 1] bcast_S1x8_S4096x8_0_1 main_v2
  let main_v5 : IVec S4096x8 1 := cmpi .eq main_v3 main_v4
  let main_v6 : IVec S4096x8 32 := (extui 32 · natLt_1_32) main_v5
  let main_c : IVec S_ 32 := constantI S_ 32 0#32
  let main_v7 : IVec S8 32 := (fun x v => Host.reduce IntOp.addi x v reducesTo_S4096x8_S8_d0 h_S_) main_v6 main_c
  let main_c_0 : IVec S_ 32 := constantI S_ 32 320#32
  let main_v8 : IVec S8 32 := broadcastInDim S8 ![] bcast_S_S8 main_c_0
  let main_v9 : IVec S8 1 := cmpi .sle main_v7 main_v8
  let main_c_1 : IVec S_ 1 := constantI S_ 1 1#1
  let main_v10 : IVec S_ 1 := (fun x v => Host.reduce IntOp.andi x v reducesTo_S8_S_d0 h_S_) main_v9 main_c_1
  main_v10
-- ==== Kernel.lean ====
abbrev S2048x1024 : Shape := ⟨2, ![2048, 1024]⟩
abbrev S2048 : Shape := ⟨1, ![2048]⟩
abbrev S4x1024x2048 : Shape := ⟨3, ![4, 1024, 2048]⟩
abbrev S4x2048x1024 : Shape := ⟨3, ![4, 2048, 1024]⟩
abbrev S2048x1 : Shape := ⟨2, ![2048, 1]⟩
abbrev S8 : Shape := ⟨1, ![8]⟩
abbrev S1x8 : Shape := ⟨2, ![1, 8]⟩
abbrev S2048x8 : Shape := ⟨2, ![2048, 8]⟩
abbrev S_ : Shape := ⟨0, ![]⟩
abbrev S1x2048 : Shape := ⟨2, ![1, 2048]⟩
abbrev S4x320x1024 : Shape := ⟨3, ![4, 320, 1024]⟩
abbrev S1024x2048 : Shape := ⟨2, ![1024, 2048]⟩
abbrev S4 : Shape := ⟨1, ![4]⟩
abbrev S1x1024x2048 : Shape := ⟨3, ![1, 1024, 2048]⟩
abbrev S1x2048x1024 : Shape := ⟨3, ![1, 2048, 1024]⟩
abbrev S320x2048 : Shape := ⟨2, ![320, 2048]⟩
abbrev S320x1024 : Shape := ⟨2, ![320, 1024]⟩
abbrev S1x320x1024 : Shape := ⟨3, ![1, 320, 1024]⟩
abbrev S1 : Shape := ⟨1, ![1]⟩

abbrev nBuf : Space → Nat
  | .hbm => 23
  | .vmem => 10
  | .smem => 0
  | _ => 0

abbrev bufTy : (tb : Table) → Fin (tcTables nBuf tb) → BufTy
  | .hbm, ⟨0, _⟩ => ⟨S2048x1024, .f32⟩
  | .hbm, ⟨1, _⟩ => ⟨S2048, .i32⟩
  | .hbm, ⟨2, _⟩ => ⟨S4x1024x2048, .f32⟩
  | .hbm, ⟨3, _⟩ => ⟨S4x2048x1024, .f32⟩
  | .hbm, ⟨4, _⟩ => ⟨S2048x1024, .bf16⟩
  | .hbm, ⟨5, _⟩ => ⟨S2048x1, .i32⟩
  | .hbm, ⟨6, _⟩ => ⟨S8, .i32⟩
  | .hbm, ⟨7, _⟩ => ⟨S1x8, .i32⟩
  | .hbm, ⟨8, _⟩ => ⟨S2048x8, .i32⟩
  | .hbm, ⟨9, _⟩ => ⟨S2048x8, .i32⟩
  | .hbm, ⟨10, _⟩ => ⟨S2048x8, .i1⟩
  | .hbm, ⟨11, _⟩ => ⟨S2048x8, .i32⟩
  | .hbm, ⟨12, _⟩ => ⟨S_, .i32⟩
  | .hbm, ⟨13, _⟩ => ⟨S_, .i32⟩
  | .hbm, ⟨14, _⟩ => ⟨S2048x8, .i32⟩
  | .hbm, ⟨15, _⟩ => ⟨S2048x8, .i32⟩
  | .hbm, ⟨16, _⟩ => ⟨S2048x8, .i32⟩
  | .hbm, ⟨17, _⟩ => ⟨S_, .i32⟩
  | .hbm, ⟨18, _⟩ => ⟨S2048, .i32⟩
  | .hbm, ⟨19, _⟩ => ⟨S1x2048, .i32⟩
  | .hbm, ⟨20, _⟩ => ⟨S1x2048, .i32⟩
  | .hbm, ⟨21, _⟩ => ⟨S2048x1024, .bf16⟩
  | .hbm, ⟨22, _⟩ => ⟨S2048x1024, .f32⟩
  | .local _ .vmem, ⟨0, _⟩ => ⟨S2048x1024, .bf16⟩
  | .local _ .vmem, ⟨1, _⟩ => ⟨S1x2048, .i32⟩
  | .local _ .vmem, ⟨2, _⟩ => ⟨S1x2048, .i32⟩
  | .local _ .vmem, ⟨3, _⟩ => ⟨S2048x1024, .bf16⟩
  | .local _ .vmem, ⟨4, _⟩ => ⟨S4x320x1024, .bf16⟩
  | .local _ .vmem, ⟨5, _⟩ => ⟨S4x320x1024, .bf16⟩
  | .local _ .vmem, ⟨6, _⟩ => ⟨S4x320x1024, .bf16⟩
  | .local _ .vmem, ⟨7, _⟩ => ⟨S4x320x1024, .bf16⟩
  | .local _ .vmem, ⟨8, _⟩ => ⟨S1024x2048, .f32⟩
  | .local _ .vmem, ⟨9, _⟩ => ⟨S2048x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  (ofTc nBuf bufTy 1 22 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_call0_call0_c : Ref sig .tc := ⟨.hbm, 12, rfl⟩
abbrev main_call0_call0_v0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_c : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_scratch5 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_8 : BitVec 32 := 4#32
  let v14 : BitVec 32 := Scalar.muli v2 c4_i32_8
  let v15 : BitVec 32 := Scalar.addi c0_i32 v14
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_9 : BitVec 32 := 2#32
  let v16 : BitVec 32 := Scalar.muli v9 c2_i32_9
  let v17 : BitVec 32 := Scalar.addi v15 v16
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_10 : BitVec 32 := 1#32
  let v18 : BitVec 32 := Scalar.muli v8 c1_i32_10
  let v19 : BitVec 32 := Scalar.addi v17 v18
  v19.toNat
def k0_dev2 (d0 : Dev nD) : Nat :=
  let c0_i32_32 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_31 : BitVec 32 := 4#32
  let v46 : BitVec 32 := Scalar.muli v2 c4_i32_31
  let v47 : BitVec 32 := Scalar.addi c0_i32_32 v46
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_33 : BitVec 32 := 2#32
  let v48 : BitVec 32 := Scalar.muli v9 c2_i32_33
  let v49 : BitVec 32 := Scalar.addi v47 v48
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_34 : BitVec 32 := 1#32
  let v50 : BitVec 32 := Scalar.muli v8 c1_i32_34
  let v51 : BitVec 32 := Scalar.addi v49 v50
  v51.toNat
def k0_dev3 (d0 : Dev nD) : Nat :=
  let c0_i32_48 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_47 : BitVec 32 := 4#32
  let v75 : BitVec 32 := Scalar.muli v2 c4_i32_47
  let v76 : BitVec 32 := Scalar.addi c0_i32_48 v75
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_49 : BitVec 32 := 2#32
  let v77 : BitVec 32 := Scalar.muli v9 c2_i32_49
  let v78 : BitVec 32 := Scalar.addi v76 v77
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_50 : BitVec 32 := 1#32
  let v79 : BitVec 32 := Scalar.muli v8 c1_i32_50
  let v80 : BitVec 32 := Scalar.addi v78 v79
  v80.toNat
def k0_dev4 (d0 : Dev nD) : Nat :=
  let c0_i32_64 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_63 : BitVec 32 := 4#32
  let v104 : BitVec 32 := Scalar.muli v2 c4_i32_63
  let v105 : BitVec 32 := Scalar.addi c0_i32_64 v104
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_65 : BitVec 32 := 2#32
  let v106 : BitVec 32 := Scalar.muli v9 c2_i32_65
  let v107 : BitVec 32 := Scalar.addi v105 v106
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_66 : BitVec 32 := 1#32
  let v108 : BitVec 32 := Scalar.muli v8 c1_i32_66
  let v109 : BitVec 32 := Scalar.addi v107 v108
  v109.toNat
def k0_dev5 (d0 : Dev nD) : Nat :=
  let c0_i32_79 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_78 : BitVec 32 := 4#32
  let v133 : BitVec 32 := Scalar.muli v2 c4_i32_78
  let v134 : BitVec 32 := Scalar.addi c0_i32_79 v133
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_80 : BitVec 32 := 2#32
  let v135 : BitVec 32 := Scalar.muli v9 c2_i32_80
  let v136 : BitVec 32 := Scalar.addi v134 v135
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_81 : BitVec 32 := 1#32
  let v137 : BitVec 32 := Scalar.muli v8 c1_i32_81
  let v138 : BitVec 32 := Scalar.addi v136 v137
  v138.toNat
def k0_dev6 (d0 : Dev nD) : Nat :=
  let c0_i32_150 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_149 : BitVec 32 := 4#32
  let v214 : BitVec 32 := Scalar.muli v2 c4_i32_149
  let v215 : BitVec 32 := Scalar.addi c0_i32_150 v214
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_151 : BitVec 32 := 2#32
  let v216 : BitVec 32 := Scalar.muli v9 c2_i32_151
  let v217 : BitVec 32 := Scalar.addi v215 v216
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_152 : BitVec 32 := 1#32
  let v218 : BitVec 32 := Scalar.muli v8 c1_i32_152
  let v219 : BitVec 32 := Scalar.addi v217 v218
  v219.toNat
def k0_dev7 (d0 : Dev nD) : Nat :=
  let c0_i32_218 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_217 : BitVec 32 := 4#32
  let v293 : BitVec 32 := Scalar.muli v2 c4_i32_217
  let v294 : BitVec 32 := Scalar.addi c0_i32_218 v293
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_219 : BitVec 32 := 2#32
  let v295 : BitVec 32 := Scalar.muli v9 c2_i32_219
  let v296 : BitVec 32 := Scalar.addi v294 v295
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_220 : BitVec 32 := 1#32
  let v297 : BitVec 32 := Scalar.muli v8 c1_i32_220
  let v298 : BitVec 32 := Scalar.addi v296 v297
  v298.toNat
def k0_dev8 (d0 : Dev nD) : Nat :=
  let c0_i32_286 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_285 : BitVec 32 := 4#32
  let v372 : BitVec 32 := Scalar.muli v2 c4_i32_285
  let v373 : BitVec 32 := Scalar.addi c0_i32_286 v372
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_287 : BitVec 32 := 2#32
  let v374 : BitVec 32 := Scalar.muli v9 c2_i32_287
  let v375 : BitVec 32 := Scalar.addi v373 v374
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_288 : BitVec 32 := 1#32
  let v376 : BitVec 32 := Scalar.muli v8 c1_i32_288
  let v377 : BitVec 32 := Scalar.addi v375 v376
  v377.toNat
def k0_dev9 (d0 : Dev nD) : Nat :=
  let c0_i32_348 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_347 : BitVec 32 := 4#32
  let v447 : BitVec 32 := Scalar.muli v2 c4_i32_347
  let v448 : BitVec 32 := Scalar.addi c0_i32_348 v447
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_349 : BitVec 32 := 2#32
  let v449 : BitVec 32 := Scalar.muli v9 c2_i32_349
  let v450 : BitVec 32 := Scalar.addi v448 v449
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_350 : BitVec 32 := 1#32
  let v451 : BitVec 32 := Scalar.muli v8 c1_i32_350
  let v452 : BitVec 32 := Scalar.addi v450 v451
  v452.toNat
abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x2048 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x2048 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2048x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S4096x1024 : Shape := ⟨2, ![4096, 1024]⟩
abbrev S4096 : Shape := ⟨1, ![4096]⟩
abbrev S8x1024x2048 : Shape := ⟨3, ![8, 1024, 2048]⟩
abbrev S8x2048x1024 : Shape := ⟨3, ![8, 2048, 1024]⟩
abbrev S_ : Shape := ⟨0, ![]⟩
abbrev S1x1024x2048 : Shape := ⟨3, ![1, 1024, 2048]⟩
abbrev S1024x2048 : Shape := ⟨2, ![1024, 2048]⟩
abbrev S4096x2048 : Shape := ⟨2, ![4096, 2048]⟩
abbrev S4096x1 : Shape := ⟨2, ![4096, 1]⟩
abbrev S1x2048x1024 : Shape := ⟨3, ![1, 2048, 1024]⟩
abbrev S2048x1024 : Shape := ⟨2, ![2048, 1024]⟩

abbrev nBuf : Space → Nat
  | .hbm => 126
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096, .i32⟩
  | .hbm, ⟨2, _⟩ => ⟨S8x1024x2048, .f32⟩
  | .hbm, ⟨3, _⟩ => ⟨S8x2048x1024, .f32⟩
  | .hbm, ⟨4, _⟩ => ⟨S_, .f32⟩
  | .hbm, ⟨5, _⟩ => ⟨S4096x1024, .f32⟩
  | .hbm, ⟨6, _⟩ => ⟨S1x1024x2048, .f32⟩
  | .hbm, ⟨7, _⟩ => ⟨S1024x2048, .f32⟩
  | .hbm, ⟨8, _⟩ => ⟨S4096x2048, .f32⟩
  | .hbm, ⟨9, _⟩ => ⟨S_, .f32⟩
  | .hbm, ⟨10, _⟩ => ⟨S4096x2048, .f32⟩
  | .hbm, ⟨11, _⟩ => ⟨S4096x2048, .f32⟩
  | .hbm, ⟨12, _⟩ => ⟨S_, .i32⟩
  | .hbm, ⟨13, _⟩ => ⟨S4096, .i32⟩
  | .hbm, ⟨14, _⟩ => ⟨S4096, .i1⟩
  | .hbm, ⟨15, _⟩ => ⟨S4096x1, .i1⟩
  | .hbm, ⟨16, _⟩ => ⟨S1x2048x1024, .f32⟩
  | .hbm, ⟨17, _⟩ => ⟨S2048x1024, .f32⟩
  | .hbm, ⟨18, _⟩ => ⟨S4096x1024, .f32⟩
  | .hbm, ⟨19, _⟩ => ⟨S4096x1024, .i1⟩
  | .hbm, ⟨20, _⟩ => ⟨S4096x1024, .f32⟩
  | .hbm, ⟨21, _⟩ => ⟨S1x1024x2048, .f32⟩
  | .hbm, ⟨22, _⟩ => ⟨S1024x2048, .f32⟩
  | .hbm, ⟨23, _⟩ => ⟨S4096x2048, .f32⟩
  | .hbm, ⟨24, _⟩ => ⟨S_, .f32⟩
  | .hbm, ⟨25, _⟩ => ⟨S4096x2048, .f32⟩
  | .hbm, ⟨26, _⟩ => ⟨S4096x2048, .f32⟩
  | .hbm, ⟨27, _⟩ => ⟨S_, .i32⟩
  | .hbm, ⟨28, _⟩ => ⟨S4096, .i32⟩
  | .hbm, ⟨29, _⟩ => ⟨S4096, .i1⟩
  | .hbm, ⟨30, _⟩ => ⟨S4096x1, .i1⟩
  | .hbm, ⟨31, _⟩ => ⟨S1x2048x1024, .f32⟩
  | .hbm, ⟨32, _⟩ => ⟨S2048x1024, .f32⟩
  | .hbm, ⟨33, _⟩ => ⟨S4096x1024, .f32⟩
  | .hbm, ⟨34, _⟩ => ⟨S4096x1024, .i1⟩
  | .hbm, ⟨35, _⟩ => ⟨S4096x1024, .f32⟩
  | .hbm, ⟨36, _⟩ => ⟨S1x1024x2048, .f32⟩
  | .hbm, ⟨37, _⟩ => ⟨S1024x2048, .f32⟩
  | .hbm, ⟨38, _⟩ => ⟨S4096x2048, .f32⟩
  | .hbm, ⟨39, _⟩ => ⟨S_, .f32⟩
  | .hbm, ⟨40, _⟩ => ⟨S4096x2048, .f32⟩
  | .hbm, ⟨41, _⟩ => ⟨S4096x2048, .f32⟩
  | .hbm, ⟨42, _⟩ => ⟨S_, .i32⟩
  | .hbm, ⟨43, _⟩ => ⟨S4096, .i32⟩
  | .hbm, ⟨44, _⟩ => ⟨S4096, .i1⟩
  | .hbm, ⟨45, _⟩ => ⟨S4096x1, .i1⟩
  | .hbm, ⟨46, _⟩ => ⟨S1x2048x1024, .f32⟩
  | .hbm, ⟨47, _⟩ => ⟨S2048x1024, .f32⟩
  | .hbm, ⟨48, _⟩ => ⟨S4096x1024, .f32⟩
  | .hbm, ⟨49, _⟩ => ⟨S4096x1024, .i1⟩
  | .hbm, ⟨50, _⟩ => ⟨S4096x1024, .f32⟩
  | .hbm, ⟨51, _⟩ => ⟨S1x1024x2048, .f32⟩
  | .hbm, ⟨52, _⟩ => ⟨S1024x2048, .f32⟩
  | .hbm, ⟨53, _⟩ => ⟨S4096x2048, .f32⟩
  | .hbm, ⟨54, _⟩ => ⟨S_, .f32⟩
  | .hbm, ⟨55, _⟩ => ⟨S4096x2048, .f32⟩
  | .hbm, ⟨56, _⟩ => ⟨S4096x2048, .f32⟩
  | .hbm, ⟨57, _⟩ => ⟨S_, .i32⟩
  | .hbm, ⟨58, _⟩ => ⟨S4096, .i32⟩
  | .hbm, ⟨59, _⟩ => ⟨S4096, .i1⟩
  | .hbm, ⟨60, _⟩ => ⟨S4096x1, .i1⟩
  | .hbm, ⟨61, _⟩ => ⟨S1x2048x1024, .f32⟩
  | .hbm, ⟨62, _⟩ => ⟨S2048x1024, .f32⟩
  | .hbm, ⟨63, _⟩ => ⟨S4096x1024, .f32⟩
  | .hbm, ⟨64, _⟩ => ⟨S4096x1024, .i1⟩
  | .hbm, ⟨65, _⟩ => ⟨S4096x1024, .f32⟩
  | .hbm, ⟨66, _⟩ => ⟨S1x1024x2048, .f32⟩
  | .hbm, ⟨67, _⟩ => ⟨S1024x2048, .f32⟩
  | .hbm, ⟨68, _⟩ => ⟨S4096x2048, .f32⟩
  | .hbm, ⟨69, _⟩ => ⟨S_, .f32⟩
  | .hbm, ⟨70, _⟩ => ⟨S4096x2048, .f32⟩
  | .hbm, ⟨71, _⟩ => ⟨S4096x2048, .f32⟩
  | .hbm, ⟨72, _⟩ => ⟨S_, .i32⟩
  | .hbm, ⟨73, _⟩ => ⟨S4096, .i32⟩
  | .hbm, ⟨74, _⟩ => ⟨S4096, .i1⟩
  | .hbm, ⟨75, _⟩ => ⟨S4096x1, .i1⟩
  | .hbm, ⟨76, _⟩ => ⟨S1x2048x1024, .f32⟩
  | .hbm, ⟨77, _⟩ => ⟨S2048x1024, .f32⟩
  | .hbm, ⟨78, _⟩ => ⟨S4096x1024, .f32⟩
  | .hbm, ⟨79, _⟩ => ⟨S4096x1024, .i1⟩
  | .hbm, ⟨80, _⟩ => ⟨S4096x1024, .f32⟩
  | .hbm, ⟨81, _⟩ => ⟨S1x1024x2048, .f32⟩
  | .hbm, ⟨82, _⟩ => ⟨S1024x2048, .f32⟩
  | .hbm, ⟨83, _⟩ => ⟨S4096x2048, .f32⟩
  | .hbm, ⟨84, _⟩ => ⟨S_, .f32⟩
  | .hbm, ⟨85, _⟩ => ⟨S4096x2048, .f32⟩
  | .hbm, ⟨86, _⟩ => ⟨S4096x2048, .f32⟩
  | .hbm, ⟨87, _⟩ => ⟨S_, .i32⟩
  | .hbm, ⟨88, _⟩ => ⟨S4096, .i32⟩
  | .hbm, ⟨89, _⟩ => ⟨S4096, .i1⟩
  | .hbm, ⟨90, _⟩ => ⟨S4096x1, .i1⟩
  | .hbm, ⟨91, _⟩ => ⟨S1x2048x1024, .f32⟩
  | .hbm, ⟨92, _⟩ => ⟨S2048x1024, .f32⟩
  | .hbm, ⟨93, _⟩ => ⟨S4096x1024, .f32⟩
  | .hbm, ⟨94, _⟩ => ⟨S4096x1024, .i1⟩
  | .hbm, ⟨95, _⟩ => ⟨S4096x1024, .f32⟩
  | .hbm, ⟨96, _⟩ => ⟨S1x1024x2048, .f32⟩
  | .hbm, ⟨97, _⟩ => ⟨S1024x2048, .f32⟩
  | .hbm, ⟨98, _⟩ => ⟨S4096x2048, .f32⟩
  | .hbm, ⟨99, _⟩ => ⟨S_, .f32⟩
  | .hbm, ⟨100, _⟩ => ⟨S4096x2048, .f32⟩
  | .hbm, ⟨101, _⟩ => ⟨S4096x2048, .f32⟩
  | .hbm, ⟨102, _⟩ => ⟨S_, .i32⟩
  | .hbm, ⟨103, _⟩ => ⟨S4096, .i32⟩
  | .hbm, ⟨104, _⟩ => ⟨S4096, .i1⟩
  | .hbm, ⟨105, _⟩ => ⟨S4096x1, .i1⟩
  | .hbm, ⟨106, _⟩ => ⟨S1x2048x1024, .f32⟩
  | .hbm, ⟨107, _⟩ => ⟨S2048x1024, .f32⟩
  | .hbm, ⟨108, _⟩ => ⟨S4096x1024, .f32⟩
  | .hbm, ⟨109, _⟩ => ⟨S4096x1024, .i1⟩
  | .hbm, ⟨110, _⟩ => ⟨S4096x1024, .f32⟩
  | .hbm, ⟨111, _⟩ => ⟨S1x1024x2048, .f32⟩
  | .hbm, ⟨112, _⟩ => ⟨S1024x2048, .f32⟩
  | .hbm, ⟨113, _⟩ => ⟨S4096x2048, .f32⟩
  | .hbm, ⟨114, _⟩ => ⟨S_, .f32⟩
  | .hbm, ⟨115, _⟩ => ⟨S4096x2048, .f32⟩
  | .hbm, ⟨116, _⟩ => ⟨S4096x2048, .f32⟩
  | .hbm, ⟨117, _⟩ => ⟨S_, .i32⟩
  | .hbm, ⟨118, _⟩ => ⟨S4096, .i32⟩
  | .hbm, ⟨119, _⟩ => ⟨S4096, .i1⟩
  | .hbm, ⟨120, _⟩ => ⟨S4096x1, .i1⟩
  | .hbm, ⟨121, _⟩ => ⟨S1x2048x1024, .f32⟩
  | .hbm, ⟨122, _⟩ => ⟨S2048x1024, .f32⟩
  | .hbm, ⟨123, _⟩ => ⟨S4096x1024, .f32⟩
  | .hbm, ⟨124, _⟩ => ⟨S4096x1024, .i1⟩
  | .hbm, ⟨125, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_c : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_call0_v0 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_1 : Ref sig .tc := ⟨.hbm, 24, rfl⟩
abbrev main_v16 : Ref sig .tc := ⟨.hbm, 25, rfl⟩
abbrev main_v17 : Ref sig .tc := ⟨.hbm, 26, rfl⟩
abbrev main_c_2 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_call1_v0 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_3 : Ref sig .tc := ⟨.hbm, 39, rfl⟩
abbrev main_v28 : Ref sig .tc := ⟨.hbm, 40, rfl⟩
abbrev main_v29 : Ref sig .tc := ⟨.hbm, 41, rfl⟩
abbrev main_c_4 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_call2_v0 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_5 : Ref sig .tc := ⟨.hbm, 54, rfl⟩
abbrev main_v40 : Ref sig .tc := ⟨.hbm, 55, rfl⟩
abbrev main_v41 : Ref sig .tc := ⟨.hbm, 56, rfl⟩
abbrev main_c_6 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_call3_v0 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_cst_7 : Ref sig .tc := ⟨.hbm, 69, rfl⟩
abbrev main_v52 : Ref sig .tc := ⟨.hbm, 70, rfl⟩
abbrev main_v53 : Ref sig .tc := ⟨.hbm, 71, rfl⟩
abbrev main_c_8 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_call4_v0 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_cst_9 : Ref sig .tc := ⟨.hbm, 84, rfl⟩
abbrev main_v64 : Ref sig .tc := ⟨.hbm, 85, rfl⟩
abbrev main_v65 : Ref sig .tc := ⟨.hbm, 86, rfl⟩
abbrev main_c_10 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_call5_v0 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_cst_11 : Ref sig .tc := ⟨.hbm, 99, rfl⟩
abbrev main_v76 : Ref sig .tc := ⟨.hbm, 100, rfl⟩
abbrev main_v77 : Ref sig .tc := ⟨.hbm, 101, rfl⟩
abbrev main_c_12 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_call6_v0 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_cst_13 : Ref sig .tc := ⟨.hbm, 114, rfl⟩
abbrev main_v88 : Ref sig .tc := ⟨.hbm, 115, rfl⟩
abbrev main_v89 : Ref sig .tc := ⟨.hbm, 116, rfl⟩
abbrev main_c_14 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_call7_v0 : Ref sig .tc := ⟨.hbm, 124, rfl⟩
abbrev main_v96 : Ref sig .tc := ⟨.hbm, 125, rfl⟩

abbrev nD : Nat := 1
abbrev τ : Topo := Topo.v7x

variable {F : FTy → Type} [FloatOps F]
-- ==== Proof.Proto.lean ====
/-
  The exchange between a device and its partner along the mesh's axis "y": whom a device talks to, the values it works
  out, which semaphore cell each copy pays and what the payment hands over, and what a device owes while it runs.
-/
module

public import proofs.«01_k».proof.Proof.Gen.KernelIdeal.Skeleton
public import proofs.«01_k».proof.Proof.Gen.KernelIdeal.Launch
public import Idealize.ShloMosaic.Lib.Pipeline.RegionTalk
public import Idealize.ShloMosaic.Lib.Pipeline.Value
public import Idealize.ShloMosaic.Lib.Rounds

@[expose] public section

set_option maxRecDepth 16384

noncomputable section

namespace Cert.KernelIdeal.Talk

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

attribute [local instance] Cert.KernelIdeal.Gen.facts

/-! ## The partner -/

/-- The device with the other "y" coordinate (a device's number is 4x + 2y + z). -/
def peer (c : Dev nD) : Dev nD := ⟨if (c.val / 2) % 2 = 0 then c.val + 2 else c.val - 2, by
  have h : c.val < 8 := c.isLt
  show _ < 8
  split <;> omega⟩

/-- A device is its partner's partner. -/
theorem peer_peer (c : Dev nD) : peer (peer c) = c := by revert c; decide

/-- The involution of the mesh that swaps partners. -/
def swap : Dev nD ≃ Dev nD := ⟨peer, peer, peer_peer, peer_peer⟩

theorem dev1_eq (c : Dev nD) : (⟨k0_dev1 c, k0_dev1_lt c⟩ : Dev nD) = peer c := by revert c; decide
theorem dev2_eq (c : Dev nD) : (⟨k0_dev2 c, k0_dev2_lt c⟩ : Dev nD) = peer c := by revert c; decide
theorem dev3_eq (c : Dev nD) : (⟨k0_dev3 c, k0_dev3_lt c⟩ : Dev nD) = peer c := by revert c; decide
theorem dev4_eq (c : Dev nD) : (⟨k0_dev4 c, k0_dev4_lt c⟩ : Dev nD) = peer c := by revert c; decide
theorem dev5_eq (c : Dev nD) : (⟨k0_dev5 c, k0_dev5_lt c⟩ : Dev nD) = peer c := by revert c; decide
theorem dev6_eq (c : Dev nD) : (⟨k0_dev6 c, k0_dev6_lt c⟩ : Dev nD) = peer c := by revert c; decide
theorem dev7_eq (c : Dev nD) : (⟨k0_dev7 c, k0_dev7_lt c⟩ : Dev nD) = peer c := by revert c; decide
theorem dev8_eq (c : Dev nD) : (⟨k0_dev8 c, k0_dev8_lt c⟩ : Dev nD) = peer c := by revert c; decide
theorem dev9_eq (c : Dev nD) : (⟨k0_dev9 c, k0_dev9_lt c⟩ : Dev nD) = peer c := by revert c; decide

/-! ## The buffers and their pieces -/

/-- The staged operands and result, the weights in HBM, the four chunked scratch buffers and the two weight buffers. -/
abbrev mX : Memref sig .tc .vmem S2048x1024 .bf16 := Memref.whole cc0_stg0_0
abbrev mA : Memref sig .tc .vmem S1x2048 .i32 := Memref.whole cc0_stg1_0
abbrev mR : Memref sig .tc .vmem S1x2048 .i32 := Memref.whole cc0_stg2_0
abbrev mO : Memref sig .tc .vmem S2048x1024 .bf16 := Memref.whole cc0_stg3_0
abbrev mV1 : Memref sig .tc .hbm S4x1024x2048 .f32 := Memref.whole main_arg2
abbrev mV2 : Memref sig .tc .hbm S4x2048x1024 .f32 := Memref.whole main_arg3
abbrev mW1 : Memref sig .tc .vmem S1024x2048 .f32 := Memref.whole cc0_scratch4
abbrev mW2 : Memref sig .tc .vmem S2048x1024 .f32 := Memref.whole cc0_scratch5

/-- Scratch buffer i of four chunks: 0 the tokens to send, 1 the results to send back, 2 the tokens received, 3 the results
    received. -/
abbrev mC : Fin 4 → Memref sig .tc .vmem S4x320x1024 .bf16
  | 0 => Memref.whole cc0_scratch0
  | 1 => Memref.whole cc0_scratch1
  | 2 => Memref.whole cc0_scratch2
  | 3 => Memref.whole cc0_scratch3

theorem inbC : ∀ (e : Fin 4) (a : Fin 3), (![e.val, 0, 0] : Fin 3 → ℕ) a + S1x320x1024.size a ≤ S4x320x1024.size a := by decide
theorem inbV1 : ∀ (e : Fin 4) (a : Fin 3), (![e.val, 0, 0] : Fin 3 → ℕ) a + S1x1024x2048.size a ≤ S4x1024x2048.size a := by decide
theorem inbV2 : ∀ (e : Fin 4) (a : Fin 3), (![e.val, 0, 0] : Fin 3 → ℕ) a + S1x2048x1024.size a ≤ S4x2048x1024.size a := by decide

/-- Chunk e's rectangle in a chunked buffer, and expert e's in the weights. -/
abbrev rC (e : Fin 4) : Rect S4x320x1024 := Rect.unit (s := S4x320x1024) ![e.val, 0, 0] S1x320x1024.size (inbC e)
abbrev rV1 (e : Fin 4) : Rect S4x1024x2048 := Rect.unit (s := S4x1024x2048) ![e.val, 0, 0] S1x1024x2048.size (inbV1 e)
abbrev rV2 (e : Fin 4) : Rect S4x2048x1024 := Rect.unit (s := S4x2048x1024) ![e.val, 0, 0] S1x2048x1024.size (inbV2 e)

/-- Chunk e of a chunked buffer as the copies name it. -/
abbrev ch (M : Memref sig .tc .vmem S4x320x1024 .bf16) (e : Fin 4) : Memref sig .tc .vmem S320x1024 .bf16 :=
  (M.slice (rC e) (fun _ => rfl)).squeeze S320x1024 squeezes_S1x320x1024_S320x1024
/-- Expert e's weights as the copies name them. -/
abbrev sV1 (e : Fin 4) : Memref sig .tc .hbm S1024x2048 .f32 :=
  (mV1.slice (rV1 e) (fun _ => rfl)).squeeze S1024x2048 squeezes_S1x1024x2048_S1024x2048
abbrev sV2 (e : Fin 4) : Memref sig .tc .hbm S2048x1024 .f32 :=
  (mV2.slice (rV2 e) (fun _ => rfl)).squeeze S2048x1024 squeezes_S1x2048x1024_S2048x1024

/-! ## The values -/

/-- What one device's kernel reads: its tokens, their experts, their places, and its experts' weights. -/
structure Inp (F : FTy → Type) [FloatOps F] where
  xb : Vec F S2048x1024 .bf16
  asg : Vec F S1x2048 .i32
  rnk : Vec F S1x2048 .i32
  v1 : Vec F S4x1024x2048 .f32
  v2 : Vec F S4x2048x1024 .f32

/-- The device's "y" coordinate, its first expert, its partner's first expert, as the kernel's words. -/
abbrev yW (c : Dev nD) : BitVec 32 := Scalar.remsi (Scalar.divsi (Dev.word c) 2#32) 2#32
abbrev mine (c : Dev nD) : BitVec 32 := Scalar.muli (yW c) 4#32
abbrev other (c : Dev nD) : BitVec 32 := Scalar.muli (Scalar.subi 1#32 (yW c)) 4#32
/-- The row numbers of a chunk. -/
abbrev rows : IVec S320x2048 32 := iota .tc S320x2048 32 [0] iota_S320x2048_d0_w32

/-- Expert e's two weight matrices. -/
def w1At (I : Inp F) (e : Fin 4) : Vec F S1024x2048 .f32 := (sV1 e).view.read (Elt F) I.v1
def w2At (I : Inp F) (e : Fin 4) : Vec F S2048x1024 .f32 := (sV2 e).view.read (Elt F) I.v2

section Values
variable (c : Dev nD) (I : Inp F)

/-- The tokens a device sends for its partner's expert e. -/
def sent : Fin 4 → Vec F S1x320x1024 .bf16
  | 0 => k0_pay5 (other c) rows (k0_pay2 (F := F) I.asg) I.rnk I.xb
  | 1 => k0_pay8 (k0_pay4 I.xb) (k0_pay6 (F := F) rows I.rnk) (k0_pay7 (other c) (k0_pay2 (F := F) I.asg))
  | 2 => k0_pay10 (k0_pay9 (other c) rows (k0_pay2 (F := F) I.asg) (k0_pay3 (F := F) I.rnk) (k0_pay4 I.xb))
  | 3 => k0_pay11 (other c) rows (k0_pay2 (F := F) I.asg) (k0_pay3 (F := F) I.rnk) (k0_pay4 I.xb)

/-- Expert e's result on the tokens x received for it. -/
def answer (e : Fin 4) (x : Vec F S1x320x1024 .bf16) : Vec F S1x320x1024 .bf16 :=
  match e with
  | 0 => k0_pay18 (k0_pay13 (w1At I 0)) (k0_pay14 (w2At I 0)) x
  | 1 => k0_pay25 (k0_pay24 (k0_pay19 (w1At I 1)) (k0_pay20 (w2At I 1)) x)
  | 2 => k0_pay29 (k0_pay26 (w1At I 2)) (k0_pay27 (w2At I 2)) x
  | 3 => k0_pay36 (k0_pay35 (k0_pay30 (w1At I 3)) (k0_pay31 (w2At I 3)) x)

/-- The result after one, two, three and all four of the device's own experts. -/
def own1 : Vec F S2048x1024 .bf16 := k0_pay17 rows (k0_pay4 I.xb) (k0_pay13 (w1At I 0)) (k0_pay14 (w2At I 0)) (k0_pay15 (mine c) (k0_pay2 (F := F) I.asg))
  (k0_pay16 (k0_pay3 (F := F) I.rnk)) (k0_pay12 (F := F))
def own2 : Vec F S2048x1024 .bf16 := k0_pay23 (k0_pay21 (own1 c I)) (k0_pay22 (mine c) rows (k0_pay2 (F := F) I.asg) (k0_pay3 (F := F) I.rnk) (k0_pay4 I.xb) (w1At I 1) (w2At I 1))
def own3 : Vec F S2048x1024 .bf16 := k0_pay28 (mine c) rows (k0_pay2 (F := F) I.asg) (k0_pay3 (F := F) I.rnk) (k0_pay4 I.xb) (k0_pay26 (w1At I 2)) (k0_pay27 (w2At I 2)) (own2 c I)
def own4 : Vec F S2048x1024 .bf16 := k0_pay34 (k0_pay32 (own3 c I)) (k0_pay33 (mine c) rows (k0_pay2 (F := F) I.asg) (k0_pay3 (F := F) I.rnk) (k0_pay4 I.xb) (w1At I 3) (w2At I 3))

/-- The result after one, two, three and all four of the partner's experts too, from what came back of them. -/
def total1 (r : Fin 4 → Vec F S1x320x1024 .bf16) : Vec F S2048x1024 .bf16 :=
  k0_pay37 (other c) rows (k0_pay2 (F := F) I.asg) (k0_pay3 (F := F) I.rnk) (own4 c I) (r 0)
def total2 (r : Fin 4 → Vec F S1x320x1024 .bf16) : Vec F S2048x1024 .bf16 :=
  k0_pay38 (other c) rows (k0_pay2 (F := F) I.asg) (k0_pay3 (F := F) I.rnk) (total1 c I r) (r 1)
def total3 (r : Fin 4 → Vec F S1x320x1024 .bf16) : Vec F S2048x1024 .bf16 :=
  k0_pay39 (other c) rows (k0_pay2 (F := F) I.asg) (k0_pay3 (F := F) I.rnk) (total2 c I r) (r 2)
def total4 (r : Fin 4 → Vec F S1x320x1024 .bf16) : Vec F S2048x1024 .bf16 :=
  k0_pay1 (k0_pay40 (total3 c I r)) (k0_pay41 (other c) rows (k0_pay2 (F := F) I.asg) (k0_pay3 (F := F) I.rnk)) (r 3)

end Values

variable (I : Dev nD → Inp F)

/-- What device c sends in its copy j: tokens for copies 0 to 3, results for copies 4 to 7. -/
def out (c : Dev nD) (j : Fin 8) : Vec F S1x320x1024 .bf16 :=
  if h : j.val < 4 then sent c (I c) ⟨j.val, h⟩ else answer (I c) ⟨j.val - 4, by omega⟩ (sent (peer c) (I (peer c)) ⟨j.val - 4, by omega⟩)

/-- The result of device c. -/
def result (c : Dev nD) : Vec F S2048x1024 .bf16 := total4 c (I c) (fun e => out I (peer c) ⟨e.val + 4, by omega⟩)

/-! ## The cells -/

/-- Copy j's two semaphores: the sender's own and the one it credits at the partner. -/
def sndS (j : Fin 8) : DmaSem sig := ⟨if j.val < 4 then j.val + 4 else j.val + 8, by show _ < 22; split <;> omega⟩
def rcvS (j : Fin 8) : DmaSem sig := ⟨if j.val < 4 then j.val + 8 else j.val + 12, by show _ < 22; split <;> omega⟩
/-- The two weight copies' semaphores. -/
def wS (i : Fin 2) : DmaSem sig := ⟨i.val + 20, by show _ < 22; omega⟩

/-- What a semaphore is for. -/
inductive Use where
  | bar
  | snd (j : Fin 8)
  | rcv (j : Fin 8)
  | wt (i : Fin 2)
  | none
  deriving DecidableEq

/-- The use of each semaphore. -/
def use : SemLoc sig → Use
  | .reg s => if s = barrier0 then .bar else .none
  | .dma s => (![.none, .none, .none, .none, .snd 0, .snd 1, .snd 2, .snd 3, .rcv 0, .rcv 1, .rcv 2, .rcv 3,
      .snd 4, .snd 5, .snd 6, .snd 7, .rcv 4, .rcv 5, .rcv 6, .rcv 7, .wt 0, .wt 1] : Fin 22 → Use) s

theorem use_bar : use (.reg barrier0) = .bar := by unfold use; exact if_pos rfl
theorem use_snd (j : Fin 8) : use (.dma (sndS j)) = .snd j := by revert j; decide
theorem use_rcv (j : Fin 8) : use (.dma (rcvS j)) = .rcv j := by revert j; decide
theorem use_wt (i : Fin 2) : use (.dma (wS i)) = .wt i := by revert i; decide

abbrev barC (c : Dev nD) : GSem nD τ sig := ((c : Thread nD τ), .reg barrier0)
abbrev sndC (c : Dev nD) (j : Fin 8) : GSem nD τ sig := ((c : Thread nD τ), .dma (sndS j))
abbrev rcvC (c : Dev nD) (j : Fin 8) : GSem nD τ sig := ((c : Thread nD τ), .dma (rcvS j))
abbrev wtC (c : Dev nD) (i : Fin 2) : GSem nD τ sig := ((c : Thread nD τ), .dma (wS i))

/-! ## What the pieces hold -/

/-- Two copies of the rounds library: the pipeline's and the exchange's. -/
abbrev UU : Type := UR sig nD τ × UR sig nD τ

local notation "𝕄" => MT nD τ sig Unit (Elt F) ℕ UU ℕ

abbrev EP : Emb (UR sig nD τ) (MT nD τ sig Unit (Elt F) ℕ UU ℕ) := embL
abbrev ER : Emb (UR sig nD τ) (MT nD τ sig Unit (Elt F) ℕ UU ℕ) := embR

/-- Copy j's source buffer, target buffer and chunk. -/
abbrev srcI : Fin 8 → Fin 4 := ![0, 0, 0, 0, 1, 1, 1, 1]
abbrev dstI : Fin 8 → Fin 4 := ![2, 2, 2, 2, 3, 3, 3, 3]
abbrev ecI : Fin 8 → Fin 4 := ![0, 1, 2, 3, 0, 1, 2, 3]

section Pieces
variable (c : Dev nD) (M : Memref sig .tc .vmem S4x320x1024 .bf16) (e : Fin 4)

/-- Chunk e of M on device c, at contents f. -/
def chAt (f : Buf (Elt F) ((ch M e).view.loc (c : Thread nD τ))) : sProp 𝕄 :=
  (ch M e).view.loc (c : Thread nD τ) ↦[(ch M e).view.set]{fullShare} f
/-- Chunk e of M on device c, at anything. -/
def chAny : sProp 𝕄 := iprop(∃ f, chAt (F := F) c M e f)
/-- Chunk e of M on device c, holding X. -/
def chIs (X : Vec F S1x320x1024 .bf16) : sProp 𝕄 :=
  iprop(∃ f : Buf (Elt F) ((ch M e).view.loc (c : Thread nD τ)), ⌜M.view.readAt (Elt F) (rC e).toLoadRect f = X⌝ ∗ chAt (F := F) c M e f)

instance chAt_storable (f : Buf (Elt F) ((ch M e).view.loc (c : Thread nD τ))) :
    BI.Storable (upEmb : UEmb _ 𝕄) (chAt (F := F) c M e f) := by unfold chAt; infer_instance
instance chAny_storable : BI.Storable (upEmb : UEmb _ 𝕄) (chAny (F := F) c M e) := by unfold chAny; infer_instance
instance chIs_storable (X : Vec F S1x320x1024 .bf16) : BI.Storable (upEmb : UEmb _ 𝕄) (chIs (F := F) c M e X) := by unfold chIs; infer_instance

theorem chIs_any (X : Vec F S1x320x1024 .bf16) : (chIs (F := F) c M e X : sProp 𝕄) ⊢ chAny c M e := by
  unfold chIs chAny
  iintro ⟨%f, -, H⟩
  iexists f; iexact H

end Pieces

/-- A whole buffer at contents f. -/
abbrev pt (c : Dev nD) (b : Ref sig .tc) (f : b.ty.Contents (Elt F)) : sProp 𝕄 := (c : Thread nD τ).loc b ↦{fullShare} f

/-- Expert r's weights in HBM, by the elements the copy reads. -/
def v1At (c : Dev nD) (r : Fin 4) (f : main_arg2.ty.Contents (Elt F)) : sProp 𝕄 :=
  (sV1 r).view.loc (c : Thread nD τ) ↦[(sV1 r).view.set]{fullShare} f
def v2At (c : Dev nD) (r : Fin 4) (f : main_arg3.ty.Contents (Elt F)) : sProp 𝕄 :=
  (sV2 r).view.loc (c : Thread nD τ) ↦[(sV2 r).view.set]{fullShare} f

/-! ## The schedule -/

/-- A chunk's credit, and each weight matrix's. -/
abbrev NC : ℕ := (ch (mC 2) 0).view.dmaCredit
abbrev NW (i : Fin 2) : ℕ := if i = 0 then mW1.view.dmaCredit else mW2.view.dmaCredit

theorem NC_pos : 0 < NC := View.dmaCredit_pos _ (by decide)
theorem NW_pos (i : Fin 2) : 0 < NW i := by
  unfold NW
  split
  · exact View.dmaCredit_pos _ (by decide)
  · exact View.dmaCredit_pos _ (by decide)

/-- The partner's signal hands over its two receiving buffers, chunk by chunk, ready to be copied into. -/
def barPay (c : Dev nD) : sProp 𝕄 :=
  bigSep Finset.univ fun j : Fin 8 => iprop(chAny (F := F) (peer c) (mC (dstI j)) (ecI j) ∗ reached (ER (F := F)) (rcvC (peer c) j) 0)
/-- A copy sent gives the source back. -/
def sndPay (c : Dev nD) (j : Fin 8) : sProp 𝕄 := chAny (F := F) c (mC (srcI j)) (ecI j)
/-- A copy received holds what the partner sent. -/
def rcvPay (c : Dev nD) (j : Fin 8) : sProp 𝕄 := chIs (F := F) c (mC (dstI j)) (ecI j) (out I (peer c) j)
/-- A weight copy gives its source back and the buffer at expert r's weights. -/
def wtPay (c : Dev nD) (i : Fin 2) (r : Fin 4) : sProp 𝕄 :=
  if i = 0 then iprop(pt c cc0_scratch4 (w1At (I c) r) ∗ v1At c r (I c).v1)
  else iprop(pt c cc0_scratch5 (w2At (I c) r) ∗ v2At c r (I c).v2)

/-- The exchange: one round on the barrier and on each copy's two cells, four rounds on each weight cell. -/
def sched : Rounds.Schedule (GSem nD τ sig) Unit 𝕄 where
  duties g r :=
    if g.1.2 = .tc then
      match use g.2 with
      | .bar | .snd _ | .rcv _ => if r = 0 then {()} else ∅
      | .wt _ => if r < 4 then {()} else ∅
      | .none => ∅
    else ∅
  unitless _ := False
  amount g _ _ := match use g.2 with
    | .bar => 1
    | .wt i => NW i
    | _ => NC
  payload g r _ := match use g.2 with
    | .bar => barPay g.1.1
    | .snd j => sndPay g.1.1 j
    | .rcv j => rcvPay I g.1.1 j
    | .wt i => if h : r < 4 then wtPay I g.1.1 i ⟨r, h⟩ else iprop(emp)
    | .none => iprop(emp)
  amount_pos g _ _ _ := by
    split
    · exact Nat.one_pos
    · exact NW_pos _
    · exact NC_pos

instance sched_payload_storable (g : GSem nD τ sig) (r : ℕ) (d : Unit) :
    BI.Storable (upEmb : UEmb _ 𝕄) ((sched (F := F) I).payload g r d) := by
  show BI.Storable upEmb (match use g.2 with
    | .bar => barPay g.1.1
    | .snd j => sndPay g.1.1 j
    | .rcv j => rcvPay I g.1.1 j
    | .wt i => if h : r < 4 then wtPay I g.1.1 i ⟨r, h⟩ else iprop(emp)
    | .none => iprop(emp))
  unfold barPay sndPay rcvPay wtPay pt v1At v2At
  (repeat' split) <;> infer_instance

section Sched
variable (c : Dev nD) (j : Fin 8) (i : Fin 2)

theorem duties_bar : (sched (F := F) I).duties (barC c) 0 = {()} := by dsimp only [sched]; rw [use_bar]; rfl
theorem duties_snd : (sched (F := F) I).duties (sndC c j) 0 = {()} := by dsimp only [sched]; rw [use_snd]; rfl
theorem duties_rcv : (sched (F := F) I).duties (rcvC c j) 0 = {()} := by dsimp only [sched]; rw [use_rcv]; rfl
theorem duties_wt (r : Fin 4) : (sched (F := F) I).duties (wtC c i) r.val = {()} := by
  dsimp only [sched]; rw [use_wt]; exact (if_pos rfl).trans (if_pos r.isLt)
theorem duties_bar_later : ∀ r, 1 ≤ r → (sched (F := F) I).duties (barC c) r = ∅ := fun r hr => by
  dsimp only [sched]; rw [use_bar]; exact (if_pos rfl).trans (if_neg (by omega))
theorem duties_snd_later : ∀ r, 1 ≤ r → (sched (F := F) I).duties (sndC c j) r = ∅ := fun r hr => by
  dsimp only [sched]; rw [use_snd]; exact (if_pos rfl).trans (if_neg (by omega))
theorem duties_rcv_later : ∀ r, 1 ≤ r → (sched (F := F) I).duties (rcvC c j) r = ∅ := fun r hr => by
  dsimp only [sched]; rw [use_rcv]; exact (if_pos rfl).trans (if_neg (by omega))
theorem duties_wt_later : ∀ r, 4 ≤ r → (sched (F := F) I).duties (wtC c i) r = ∅ := fun r hr => by
  dsimp only [sched]; rw [use_wt]; exact (if_pos rfl).trans (if_neg (by omega))

theorem amount_bar (r : ℕ) (u : Unit) : (sched (F := F) I).amount (barC c) r u = 1 := by dsimp only [sched]; rw [use_bar]
theorem amount_snd (r : ℕ) (u : Unit) : (sched (F := F) I).amount (sndC c j) r u = NC := by dsimp only [sched]; rw [use_snd]
theorem amount_rcv (r : ℕ) (u : Unit) : (sched (F := F) I).amount (rcvC c j) r u = NC := by dsimp only [sched]; rw [use_rcv]
theorem amount_wt (r : ℕ) (u : Unit) : (sched (F := F) I).amount (wtC c i) r u = NW i := by dsimp only [sched]; rw [use_wt]

theorem expect_bar : (sched (F := F) I).expect (barC c) 0 = 1 := by
  unfold Schedule.expect Schedule.amountOf; rw [duties_bar, Finset.sum_singleton, amount_bar]
theorem expect_snd : (sched (F := F) I).expect (sndC c j) 0 = NC := by
  unfold Schedule.expect Schedule.amountOf; rw [duties_snd, Finset.sum_singleton, amount_snd]
theorem expect_rcv : (sched (F := F) I).expect (rcvC c j) 0 = NC := by
  unfold Schedule.expect Schedule.amountOf; rw [duties_rcv, Finset.sum_singleton, amount_rcv]
theorem expect_wt (r : Fin 4) : (sched (F := F) I).expect (wtC c i) r.val = NW i := by
  unfold Schedule.expect Schedule.amountOf; rw [duties_wt, Finset.sum_singleton, amount_wt]

theorem payload_bar (u : Unit) : (sched (F := F) I).payload (barC c) 0 u = barPay c := by dsimp only [sched]; rw [use_bar]
theorem payload_snd (u : Unit) : (sched (F := F) I).payload (sndC c j) 0 u = sndPay c j := by dsimp only [sched]; rw [use_snd]
theorem payload_rcv (u : Unit) : (sched (F := F) I).payload (rcvC c j) 0 u = rcvPay I c j := by dsimp only [sched]; rw [use_rcv]
theorem payload_wt (r : Fin 4) (u : Unit) : (sched (F := F) I).payload (wtC c i) r.val u = wtPay I c i r := by
  dsimp only [sched]; rw [use_wt]; exact dif_pos r.isLt

theorem rest_bar : bigSep ((sched (F := F) I).duties (barC c) 0 \ ∅) (fun u => (sched (F := F) I).payload (barC c) 0 u) = barPay c := by
  rw [Finset.sdiff_empty, duties_bar, bigSep_singleton, payload_bar]
theorem rest_snd : bigSep ((sched (F := F) I).duties (sndC c j) 0 \ ∅) (fun u => (sched (F := F) I).payload (sndC c j) 0 u) = sndPay c j := by
  rw [Finset.sdiff_empty, duties_snd, bigSep_singleton, payload_snd]
theorem rest_rcv : bigSep ((sched (F := F) I).duties (rcvC c j) 0 \ ∅) (fun u => (sched (F := F) I).payload (rcvC c j) 0 u) = rcvPay I c j := by
  rw [Finset.sdiff_empty, duties_rcv, bigSep_singleton, payload_rcv]
theorem rest_wt (r : Fin 4) : bigSep ((sched (F := F) I).duties (wtC c i) r.val \ ∅) (fun u => (sched (F := F) I).payload (wtC c i) r.val u) = wtPay I c i r := by
  rw [Finset.sdiff_empty, duties_wt, bigSep_singleton, payload_wt]

end Sched

/-! ## What a device owes, and in which order -/

/-- The payments device c owes its partner, the last one first: copy 7 is payment 0, copy 0 payment 7, the signal payment 8. -/
def payee (c : Dev nD) (i : ℕ) : GSem nD τ sig := if i < 8 then rcvC (peer c) ⟨7 - i, by omega⟩ else barC (peer c)
def payAmt (i : ℕ) : ℕ := if i < 8 then NC else 1

/-- What device c still owes with k payments left. -/
def owed (c : Dev nD) : ℕ → CellTallies nD τ sig Unit
  | 0 => 0
  | k + 1 => owed c k + tallyAt (payee c k) () (payAmt k)

theorem owed_signal (c : Dev nD) : owed c 9 = owed c 8 + tallyAt (barC (peer c)) () 1 := rfl
theorem owed_copy (c : Dev nD) (j : Fin 8) : owed c (8 - j.val) = owed c (7 - j.val) + tallyAt (rcvC (peer c) j) () NC := by
  have h : 8 - j.val = (7 - j.val) + 1 := by omega
  have hp : payee c (7 - j.val) = rcvC (peer c) j := by
    unfold payee; rw [if_pos (by omega)]; congr; omega
  rw [h]
  show owed c (7 - j.val) + tallyAt (payee c (7 - j.val)) () (payAmt (7 - j.val)) = _
  rw [hp]; unfold payAmt; rw [if_pos (by omega)]

def L (g : GSem nD τ sig) : Finset Unit := if g.1.2 = .tc then {()} else ∅
/-- The order of the waits: own cells, then the barrier, then the copies received in their order. -/
def lvl : Use → ℕ
  | .bar => 1
  | .rcv j => j.val + 2
  | _ => 0
def lv (g : GSem nD τ sig) (_ : Unit) : ℕ := lvl (use g.2)

theorem L_of_ne (g : GSem nD τ sig) (h : g.1.2 ≠ .tc) : L g = ∅ := if_neg h
theorem L_tc (c : Dev nD) (sm : SemLoc sig) : L ((c : Thread nD τ), sm) = {()} := if_pos rfl

/-- Whatever is owed with k payments left is owed to one of those k payees. -/
theorem owed_pos (c : Dev nD) : ∀ (k : ℕ) (g : GSem nD τ sig) (u : Unit), 0 < owed c k g u → ∃ i < k, g = payee c i
  | 0, g, u, h => absurd h (Nat.lt_irrefl 0)
  | k + 1, g, u, h => by
    by_cases hg : g = payee c k
    · exact ⟨k, Nat.lt_succ_self k, hg⟩
    · have h' : 0 < owed c k g u := by
        have : owed c (k + 1) g u = owed c k g u + tallyAt (payee c k) () (payAmt k) g u := rfl
        rw [this, tallyAt_apply, if_neg (fun h => hg h.1)] at h
        exact h
      obtain ⟨i, hi, e⟩ := owed_pos c k g u h'
      exact ⟨i, Nat.lt_succ_of_lt hi, e⟩

theorem payee_tc (c : Dev nD) (i : ℕ) : (payee c i).1.2 = .tc := by unfold payee; split <;> rfl
theorem lv_payee (c : Dev nD) (i : ℕ) (hi : i < 8) : lv (payee c i) () = 9 - i := by
  unfold payee; rw [if_pos hi]; unfold lv; rw [use_rcv]; show 7 - i + 2 = 9 - i; omega

/-- A device with k copies still to send may wait on a cell below all of them. -/
theorem mayWait (c : Dev nD) (sm : SemLoc sig) (k : ℕ) (hk : k ≤ 8) (hl : lvl (use sm) + k < 10) :
    (levAts L lv : sProp 𝕄) ⊢ MayWait (c : Thread nD τ) sm () (owed c k) :=
  MayOwe.of_cut (L := L) (lev := lv) (lvl (use sm)) (fun p hp => by rw [Finset.mem_singleton.mp hp, L_tc]; exact Finset.mem_singleton_self _)
    (fun g u hg => by
      obtain ⟨i, hi, rfl⟩ := owed_pos c k g u hg
      unfold L; rw [if_pos (payee_tc c i)]; exact Finset.mem_singleton_self _)
    (fun p hp => by rw [Finset.mem_singleton.mp hp]; exact le_refl _)
    (fun g u hg => by
      obtain ⟨i, hi, rfl⟩ := owed_pos c k g u hg
      rw [lv_payee c i (by omega)]; omega)

end Cert.KernelIdeal.Talk

end
-- ==== Proof.Steps.lean ====
/-
  The kernel's memory operations one at a time, each at a symbolic chunk, copy or expert: what it takes and what it
  leaves, in the terms of the exchange.
-/
module

public import proofs.«01_k».proof.Proof.Proto

@[expose] public section

set_option maxRecDepth 16384

noncomputable section

namespace Cert.KernelIdeal.Talk

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

attribute [local instance] Cert.KernelIdeal.Gen.facts

local notation "𝕄" => MT nD τ sig Unit (Elt F) ℕ UU ℕ

abbrev 𝒱₀ : Variants := Variants.none

/-- The weakest precondition of a piece of the kernel's body on device c. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

variable (I : Dev nD → Inp F) (K : GSem nD τ sig → ℕ) (c : Dev nD)

/-! ## What every step may use -/

/-- One member of a family, and the others. -/
theorem take {ι : Type} [Fintype ι] [DecidableEq ι] (Φ : ι → sProp 𝕄) (i : ι) :
    bigSep Finset.univ Φ ⊢ iprop(Φ i ∗ bigSep (Finset.univ.erase i) Φ) := by
  rw [bigSep_univ_at Φ i]
/-- The others with one member. -/
theorem give {ι : Type} [Fintype ι] [DecidableEq ι] (Φ : ι → sProp 𝕄) (i : ι) :
    iprop(Φ i ∗ bigSep (Finset.univ.erase i) Φ) ⊢ bigSep Finset.univ Φ := by
  rw [bigSep_univ_at Φ i]

/-- The invariants of the cells device c pays or waits on, and the order of the waits. -/
def ctx : sProp 𝕄 :=
  iprop(cellInv ER (sched I) (K (barC c)) (barC c) ∗ cellInv ER (sched I) (K (barC (peer c))) (barC (peer c))
    ∗ (bigSep Finset.univ fun j : Fin 8 => iprop(cellInv ER (sched I) (K (sndC c j)) (sndC c j)
        ∗ cellInv ER (sched I) (K (rcvC c j)) (rcvC c j) ∗ cellInv ER (sched I) (K (rcvC (peer c) j)) (rcvC (peer c) j)))
    ∗ (bigSep Finset.univ fun i : Fin 2 => cellInv ER (sched I) (K (wtC c i)) (wtC c i))
    ∗ levAts L lv)

instance ctx_persistent : BI.Persistent (ctx I K c) := by unfold ctx; infer_instance

theorem ctx_bar : ctx I K c ⊢ cellInv ER (sched I) (K (barC c)) (barC c) := by
  unfold ctx; iintro ⟨H, -, -, -, -⟩; iexact H
theorem ctx_barP : ctx I K c ⊢ cellInv ER (sched I) (K (barC (peer c))) (barC (peer c)) := by
  unfold ctx; iintro ⟨-, H, -, -, -⟩; iexact H
theorem ctx_lev : ctx I K c ⊢ levAts L lv := by
  unfold ctx; iintro ⟨-, -, -, -, H⟩; iexact H
theorem ctx_snd (j : Fin 8) : ctx I K c ⊢ cellInv ER (sched I) (K (sndC c j)) (sndC c j) := by
  unfold ctx; iintro ⟨-, -, Hj, -, -⟩; icases (take _ j) $$ Hj with ⟨⟨H, -, -⟩, -⟩; iexact H
theorem ctx_rcv (j : Fin 8) : ctx I K c ⊢ cellInv ER (sched I) (K (rcvC c j)) (rcvC c j) := by
  unfold ctx; iintro ⟨-, -, Hj, -, -⟩; icases (take _ j) $$ Hj with ⟨⟨-, H, -⟩, -⟩; iexact H
theorem ctx_rcvP (j : Fin 8) : ctx I K c ⊢ cellInv ER (sched I) (K (rcvC (peer c) j)) (rcvC (peer c) j) := by
  unfold ctx; iintro ⟨-, -, Hj, -, -⟩; icases (take _ j) $$ Hj with ⟨⟨-, -, H⟩, -⟩; iexact H
theorem ctx_wt (i : Fin 2) : ctx I K c ⊢ cellInv ER (sched I) (K (wtC c i)) (wtC c i) := by
  unfold ctx; iintro ⟨-, -, -, Hi, -⟩; icases (take _ i) $$ Hi with ⟨H, -⟩; iexact H

/-- Device c still owing its last k payments, whatever it has waited for. -/
def OW (k : ℕ) : sProp 𝕄 := iprop(∃ W, owes (c : Thread nD τ) (owed c k) W)

/-- What device c pays copy j with. -/
def tok (j : Fin 8) : sProp 𝕄 :=
  iprop(dutyTok (ER (F := F)) (sndC c j) 0 () ∗ reached (ER (F := F)) (sndC c j) 0 ∗ dutyTok (ER (F := F)) (rcvC (peer c) j) 0 ())
/-- The partner's chunk copy j goes to. -/
def slot (j : Fin 8) : sProp 𝕄 :=
  iprop(chAny (F := F) (peer c) (mC (dstI j)) (ecI j) ∗ reached (ER (F := F)) (rcvC (peer c) j) 0)
/-- Copy j sent: the credit to wait for its source with. -/
def flying (j : Fin 8) : sProp 𝕄 := cred (tallyAt (sndC c j) () NC)
/-- Device c's place on its two cells of copy j, and the credit to wait for the partner's copy j with. -/
def pos (j : Fin 8) : sProp 𝕄 :=
  iprop(atPos (ER (F := F)) (sndC c j) 0 ∅ 0 ∗ atPos (ER (F := F)) (rcvC c j) 0 ∅ 0 ∗ cred (tallyAt (rcvC c j) () NC))
/-- Both waits of copy j done. -/
def done (j : Fin 8) : sProp 𝕄 :=
  iprop(atPos (ER (F := F)) (sndC c j) (0 + 1) ∅ 0 ∗ atPos (ER (F := F)) (rcvC c j) (0 + 1) ∅ 0)

/-! ## Chunks -/

section Chunk
variable (M : Memref sig .tc .vmem S4x320x1024 .bf16) (e : Fin 4)

theorem ch_set : (ch M e).view.set = (M.access (rC e)).set := by
  show ((M.view.slice (rC e)).reshape _ _).set = _
  rw [View.set_reshape]

/-- Loading a chunk that holds X reads X. -/
theorem step_load {X : Vec F S1x320x1024 .bf16} {hl : M.view.LoadsAt (rC e).toLoadRect} {α : Type}
    {k : Vec F S1x320x1024 .bf16 → Prog (TpuEff nD τ sig (Elt F) Λ₀ .tc) α} {Q : α → sProp 𝕄} :
    chIs c M e X ⊢ iprop((chIs c M e X -∗ WP c (k X) Q) -∗ WP c (.op (.load M (rC e).toLoadRect hl) k) Q) := by
  unfold chIs chAt
  iintro ⟨%f, %hf, H⟩ Hk
  iapply (wp_load 𝒱₀ (c : Thread nD τ) none Set.univ (m := M) (r := (rC e).toLoadRect) (hl := hl) (S := (ch M e).view.set) (f := f)
    (by rw [ch_set, View.set_slice]; exact Finset.map_subset_map.mpr (Finset.Subset.refl _))) $$ H
  iintro H
  rw [hf]
  iapply Hk
  iexists f
  isplitr; · ipureintro; exact hf
  iexact H

/-- Loading a chunk whose value is not looked at. -/
theorem step_peek {hl : M.view.LoadsAt (rC e).toLoadRect} {α : Type}
    {k : Vec F S1x320x1024 .bf16 → Prog (TpuEff nD τ sig (Elt F) Λ₀ .tc) α} {Q : α → sProp 𝕄} :
    chAny (F := F) c M e ⊢ iprop((∀ v, chAny (F := F) c M e -∗ WP c (k v) Q) -∗ WP c (.op (.load M (rC e).toLoadRect hl) k) Q) := by
  unfold chAny chAt
  iintro ⟨%f, H⟩ Hk
  iapply (wp_load 𝒱₀ (c : Thread nD τ) none Set.univ (m := M) (r := (rC e).toLoadRect) (hl := hl) (S := (ch M e).view.set) (f := f)
    (by rw [ch_set, View.set_slice]; exact Finset.map_subset_map.mpr (Finset.Subset.refl _))) $$ H
  iintro H
  iapply Hk
  iexists f
  iexact H

/-- Storing a chunk. -/
theorem step_store {X : Vec F S1x320x1024 .bf16} {hx : (M.access (rC e)).Stores Finset.univ}
    {hm : (Finset.univ : Finset (rC e).shape.Idx) = Finset.univ ∨ ∀ a, (rC e).stride a = 1} {α : Type}
    {k : PUnit → Prog (TpuEff nD τ sig (Elt F) Λ₀ .tc) α} {Q : α → sProp 𝕄} :
    chAny (F := F) c M e ⊢ iprop((chIs c M e X -∗ WP c (k ⟨⟩) Q) -∗ WP c (.op (.store M (rC e) X Finset.univ hx hm) k) Q) := by
  unfold chAny chIs chAt
  iintro ⟨%f, H⟩ Hk
  iapply (wp_store 𝒱₀ (c : Thread nD τ) none Set.univ (m := M) (r := rC e) (w := X) (Mk := Finset.univ) (hx := hx) (hm := hm)
    (S := (ch M e).view.set) (f := f) (by rw [ch_set]; exact Finset.Subset.refl _)) $$ H
  iintro H
  iapply Hk
  iexists ((M.access (rC e)).write (Elt F) f X Finset.univ)
  isplitr
  · ipureintro
    exact View.read_write_univ (v := M.access (rC e)) f X
  iexact H

/-- What a copy leaves in a chunk: the source chunk's value. -/
theorem landed (M' : Memref sig .tc .vmem S4x320x1024 .bf16) (e' : Fin 4) (f : Buf (Elt F) ((ch M e).view.loc (c : Thread nD τ)))
    (fd : Buf (Elt F) ((ch M' e').view.loc (peer c : Thread nD τ))) :
    M'.view.readAt (Elt F) (rC e').toLoadRect ((ch M' e').view.write (Elt F) fd ((ch M e).view.read (Elt F) f) Finset.univ)
      = M.view.readAt (Elt F) (rC e).toLoadRect f := by
  have h1 := View.read_write_univ (v := (ch M' e').view) (Val := Elt F) fd ((ch M e).view.read (Elt F) f)
  have hs : (rC e).shape.ShapeCasts S320x1024 := shapeCasts_S1x320x1024_S320x1024
  have hs' : S320x1024.ShapeCasts S1x320x1024 := shapeCasts_S320x1024_S1x320x1024
  rw [Memref.read_squeeze_slice M' (rC e') (fun _ => rfl) _ hs, Memref.read_squeeze_slice M (rC e) (fun _ => rfl) _ hs] at h1
  have h2 := congrArg (fun v => shapeCast S1x320x1024 v hs') h1
  exact (shapeCast_shapeCast _ hs hs').symm.trans (h2.trans (shapeCast_shapeCast _ hs hs'))

end Chunk

/-! ## The signal and the barrier -/

/-- The signal hands the partner this device's two receiving buffers. -/
theorem step_signal {n : Dev nD} (hn : n = peer c) {α : Type}
    {k : PUnit → Prog (TpuEff nD τ sig (Elt F) Λ₀ .tc) α} {Q : α → sProp 𝕄} :
    iprop(ctx I K c ∗ OW (F := F) c 9 ∗ dutyTok (ER (F := F)) (barC (peer c)) 0 () ∗ reached (ER (F := F)) (barC (peer c)) 0
        ∗ barPay (F := F) (peer c))
      ⊢ iprop((OW (F := F) c 8 -∗ WP c (k ⟨⟩) Q) -∗ WP c (.op (.semSignal (n : Thread nD τ) barrier0 1) k) Q) := by
  subst hn
  unfold OW
  iintro ⟨#Hc, ⟨%W, HO⟩, Ht, #Hr, Hp⟩ Hk
  ihave #Hi := ctx_barP I K c $$ Hc
  iapply (Rounds.wp_signal 𝒱₀ ER (sched I) (c : Thread nD τ) none (dst := (peer c : Thread nD τ)) (sem := barrier0) (r := 0) (d := ()) (κ := K (barC (peer c)))
    (by rw [duties_bar]; exact Finset.mem_singleton_self _) (amount_bar I (peer c) 0 ()) () (owed c 8) (owed_signal c)) $$ [HO Ht Hp]
  · isplitr; · iexact Hi
    isplitl [HO]; · iexact HO
    isplitl [Ht]; · iexact Ht
    isplitl [Hp]
    · rw [payload_bar]; iexact Hp
    iexact Hr
  iintro HO
  iapply Hk
  iexists W
  iexact HO

/-- The barrier: the partner's two receiving buffers are this device's to copy into. -/
theorem step_barrier {α : Type} {k : PUnit → Prog (TpuEff nD τ sig (Elt F) Λ₀ .tc) α} {Q : α → sProp 𝕄} :
    iprop(ctx I K c ∗ OW (F := F) c 8 ∗ atPos (ER (F := F)) (barC c) 0 ∅ 0 ∗ cred (tallyAt (barC c) () 1))
      ⊢ iprop(((OW (F := F) c 8 ∗ atPos (ER (F := F)) (barC c) (0 + 1) ∅ 0 ∗ bigSep Finset.univ (fun j => slot (F := F) c j)) -∗ WP c (k ⟨⟩) Q)
          -∗ WP c (.op (.semWait barrier0 1) k) Q) := by
  unfold OW
  iintro ⟨#Hc, ⟨%W, HO⟩, Ha, Hcr⟩ Hk
  ihave #Hi := ctx_bar I K c $$ Hc
  ihave #Hl := ctx_lev I K c $$ Hc
  iapply (Rounds.wp_wait_rest_token 𝒱₀ ER (sched I) (c : Thread nD τ) none (κ := K (barC c)) (wpE_semWait_eq 𝒱₀ (c : Thread nD τ) none Set.univ)
    (Set.mem_univ _) () (O := owed c 8) (W := W) (R := 0) (m := 0) (T := ∅) (by rw [expect_bar])) $$ [HO Ha Hcr]
  · isplitr; · iexact Hi
    isplitl [Hcr]; · iexact Hcr
    isplitl [HO]; · iexact HO
    isplitr
    · iapply (mayWait c _ 8 (le_refl _) (by rw [use_bar]; decide)); iexact Hl
    iexact Ha
  rw [rest_bar]
  iintro ⟨HO, Ha, -, Hp⟩
  iapply Hk
  isplitl [HO]
  · iexists _; iexact HO
  isplitl [Ha]; · iexact Ha
  unfold barPay slot
  iexact Hp

/-! ## The copies -/

theorem ch_amount (M : Memref sig .tc .vmem S4x320x1024 .bf16) (e : Fin 4) (s : DmaSem sig) :
    (ch M e).view.amount (.dma s) = NC := rfl

/-- Copy j sends the chunk it is to send. -/
theorem step_send (j : Fin 8) {n : Dev nD} (hn : n = peer c) {hsc : (ch (mC (dstI j)) (ecI j)).view.ref.isScScratch = false}
    {hsrc : (ch (mC (srcI j)) (ecI j)).view.WordExact} {hdst : (ch (mC (dstI j)) (ecI j)).view.WordExact}
    {hsem : DmaTarget.Typed (nD := nD) (τ := τ) .vmem (.dma (rcvS j)) (.remote (n : Thread nD τ) (ch (mC (dstI j)) (ecI j)) (.dma (sndS j)) hsc)} {α : Type}
    {k : PUnit → Prog (TpuEff nD τ sig (Elt F) Λ₀ .tc) α} {Q : α → sProp 𝕄} :
    iprop(ctx I K c ∗ OW (F := F) c (8 - j.val) ∗ tok (F := F) c j ∗ slot (F := F) c j ∗ chIs c (mC (srcI j)) (ecI j) (out I c j))
      ⊢ iprop(((OW (F := F) c (7 - j.val) ∗ flying (F := F) c j) -∗ WP c (k ⟨⟩) Q)
          -∗ WP c (.op (.enqueueDma (ch (mC (srcI j)) (ecI j)) (.remote (n : Thread nD τ) (ch (mC (dstI j)) (ecI j)) (.dma (sndS j)) hsc) (.dma (rcvS j)) hsrc hdst hsem) k) Q) := by
  subst hn
  unfold OW tok slot flying chIs chAny chAt
  iintro ⟨#Hc, ⟨%W, HO⟩, ⟨Ht1, #Hr1, Ht2⟩, ⟨⟨%fd, Hd⟩, #Hr2⟩, ⟨%fs, %hfs, Hs⟩⟩ Hk
  ihave #Hi1 := ctx_snd I K c j $$ Hc
  ihave #Hi2 := ctx_rcvP I K c j $$ Hc
  iapply (Rounds.wp_send_pointsTo 𝒱₀ ER (sched I) (c : Thread nD τ) none (c' := (peer c : Thread nD τ)) (src := ch (mC (srcI j)) (ecI j))
    (dst := ch (mC (dstI j)) (ecI j)) (sS := .dma (sndS j)) (sem := .dma (rcvS j)) (q := fullShare) (fs := fs) (fd := fd)
    (κ₁ := K (sndC c j)) (κ₂ := K (rcvC (peer c) j)) (r₁ := 0) (r₂ := 0) (d₁ := ()) (d₂ := ())
    (by rw [duties_snd]; exact Finset.mem_singleton_self _) (by rw [duties_rcv]; exact Finset.mem_singleton_self _)
    () () NC (ch_amount _ _ _) (amount_snd I c j 0 ()) (amount_rcv I (peer c) j 0 ()) (owed c (7 - j.val)) (owed_copy c j)
    (by rw [payload_snd]; unfold sndPay chAny chAt; iintro H; iexists fs; iexact H)
    (by rw [payload_rcv]; unfold rcvPay chIs chAt; rw [peer_peer]; iintro H
        iexists _
        isplitr
        · ipureintro; exact (landed c _ _ _ _ fs fd).trans hfs
        iexact H)) $$ [HO Ht1 Ht2 Hd Hs]
  · isplitr; · iexact Hi1
    isplitr; · iexact Hi2
    isplitl [Hs]; · iexact Hs
    isplitl [Hd]; · iexact Hd
    isplitl [HO]; · iexact HO
    isplitl [Ht1]; · iexact Ht1
    isplitr; · iexact Hr1
    isplitl [Ht2]; · iexact Ht2
    iexact Hr2
  iintro ⟨Hcr, HO⟩
  iapply Hk
  isplitl [HO]
  · iexists W; iexact HO
  iexact Hcr

/-- Waiting for copy j's source. -/
theorem step_sent (j : Fin 8) (kk : ℕ) (hkk : kk ≤ 8) {hsrc : (ch (mC (dstI j)) (ecI j)).view.WordExact} {hdst : (ch (mC (srcI j)) (ecI j)).view.WordExact} {α : Type}
    {k : PUnit → Prog (TpuEff nD τ sig (Elt F) Λ₀ .tc) α} {Q : α → sProp 𝕄} :
    iprop(ctx I K c ∗ OW (F := F) c kk ∗ atPos (ER (F := F)) (sndC c j) 0 ∅ 0 ∗ flying (F := F) c j)
      ⊢ iprop(((OW (F := F) c kk ∗ atPos (ER (F := F)) (sndC c j) (0 + 1) ∅ 0 ∗ chAny (F := F) c (mC (srcI j)) (ecI j)) -∗ WP c (k ⟨⟩) Q)
          -∗ WP c (.op (.waitDma2 (sndS j) (ch (mC (dstI j)) (ecI j)) (ch (mC (srcI j)) (ecI j)) hsrc hdst) k) Q) := by
  unfold OW flying
  iintro ⟨#Hc, ⟨%W, HO⟩, Ha, Hcr⟩ Hk
  ihave #Hi := ctx_snd I K c j $$ Hc
  ihave #Hl := ctx_lev I K c $$ Hc
  iapply (Rounds.wp_wait_rest_token 𝒱₀ ER (sched I) (c : Thread nD τ) none (κ := K (sndC c j)) (wpE_waitDma2_eq 𝒱₀ (c : Thread nD τ) none Set.univ)
    (Set.mem_univ _) () (O := owed c kk) (W := W) (R := 0) (m := 0) (T := ∅) (by rw [expect_snd]; exact Nat.zero_add _)) $$ [HO Ha Hcr]
  · isplitr; · iexact Hi
    isplitl [Hcr]; · iexact Hcr
    isplitl [HO]; · iexact HO
    isplitr
    · iapply (mayWait c _ kk hkk (by rw [use_snd]; show 0 + kk < 10; omega)); iexact Hl
    iexact Ha
  rw [rest_snd]
  iintro ⟨HO, Ha, -, Hp⟩
  iapply Hk
  isplitl [HO]
  · iexists _; iexact HO
  isplitl [Ha]; · iexact Ha
  unfold sndPay
  iexact Hp

/-- Waiting for the partner's copy j. -/
theorem step_received (j : Fin 8) (kk : ℕ) (hkk : j.val + 2 + kk < 10) {hsrc : (ch (mC (srcI j)) (ecI j)).view.WordExact} {hdst : (ch (mC (dstI j)) (ecI j)).view.WordExact} {α : Type}
    {k : PUnit → Prog (TpuEff nD τ sig (Elt F) Λ₀ .tc) α} {Q : α → sProp 𝕄} :
    iprop(ctx I K c ∗ OW (F := F) c kk ∗ atPos (ER (F := F)) (rcvC c j) 0 ∅ 0 ∗ cred (tallyAt (rcvC c j) () NC))
      ⊢ iprop(((OW (F := F) c kk ∗ atPos (ER (F := F)) (rcvC c j) (0 + 1) ∅ 0 ∗ chIs c (mC (dstI j)) (ecI j) (out I (peer c) j)) -∗ WP c (k ⟨⟩) Q)
          -∗ WP c (.op (.waitDma2 (rcvS j) (ch (mC (srcI j)) (ecI j)) (ch (mC (dstI j)) (ecI j)) hsrc hdst) k) Q) := by
  unfold OW
  iintro ⟨#Hc, ⟨%W, HO⟩, Ha, Hcr⟩ Hk
  ihave #Hi := ctx_rcv I K c j $$ Hc
  ihave #Hl := ctx_lev I K c $$ Hc
  iapply (Rounds.wp_wait_rest_token 𝒱₀ ER (sched I) (c : Thread nD τ) none (κ := K (rcvC c j)) (wpE_waitDma2_eq 𝒱₀ (c : Thread nD τ) none Set.univ)
    (Set.mem_univ _) () (O := owed c kk) (W := W) (R := 0) (m := 0) (T := ∅) (by rw [expect_rcv]; exact Nat.zero_add _)) $$ [HO Ha Hcr]
  · isplitr; · iexact Hi
    isplitl [Hcr]; · iexact Hcr
    isplitl [HO]; · iexact HO
    isplitr
    · iapply (mayWait c _ kk (by omega) (by rw [use_rcv]; exact hkk)); iexact Hl
    iexact Ha
  rw [rest_rcv]
  iintro ⟨HO, Ha, -, Hp⟩
  iapply Hk
  isplitl [HO]
  · iexists _; iexact HO
  isplitl [Ha]; · iexact Ha
  unfold rcvPay
  iexact Hp

/-! ## Whole buffers -/

/-- Loading a whole buffer reads its contents. -/
theorem step_wload (i : Fin (sig.nNear .tc .vmem)) {hκ : sig.names .tc .vmem i = true} {off : Fin (sig.tyNear .tc .vmem i).shape.rank → ℕ} (h : off = fun _ => 0)
    {inb : ∀ a, off a + (sig.tyNear .tc .vmem i).shape.size a ≤ (sig.tyNear .tc .vmem i).shape.size a}
    {hl : (Memref.whole ⟨.vmem, i, hκ⟩ : Memref sig .tc .vmem _ _).view.LoadsAt (Rect.unit off (sig.tyNear .tc .vmem i).shape.size inb).toLoadRect} (f : (sig.tyNear .tc .vmem i).Contents (Elt F)) {α : Type}
    {k : (sig.tyNear .tc .vmem i).Contents (Elt F) → Prog (TpuEff nD τ sig (Elt F) Λ₀ .tc) α} {Q : α → sProp 𝕄} :
    pt c ⟨.vmem, i, hκ⟩ f ⊢ iprop((pt c ⟨.vmem, i, hκ⟩ f -∗ WP c (k f) Q) -∗ WP c (.op (.load (Memref.whole ⟨.vmem, i, hκ⟩) (Rect.unit off (sig.tyNear .tc .vmem i).shape.size inb).toLoadRect hl) k) Q) := by
  iintro H Hk
  iapply (wp_load 𝒱₀ (c : Thread nD τ) none Set.univ (m := Memref.whole ⟨.vmem, i, hκ⟩) (r := (Rect.unit off (sig.tyNear .tc .vmem i).shape.size inb).toLoadRect) (hl := hl)
    (S := Finset.univ) (f := f) (Finset.subset_univ _)) $$ H
  rw [Memref.readAt_unit_zero (Elt F) ⟨.vmem, i, hκ⟩ h inb f]
  iexact Hk

/-- Storing a whole buffer, whatever it holds. -/
theorem step_wstore (i : Fin (sig.nNear .tc .vmem)) {hκ : sig.names .tc .vmem i = true} {off : Fin (sig.tyNear .tc .vmem i).shape.rank → ℕ} (h : off = fun _ => 0)
    {inb : ∀ a, off a + (sig.tyNear .tc .vmem i).shape.size a ≤ (sig.tyNear .tc .vmem i).shape.size a} (X : (sig.tyNear .tc .vmem i).Contents (Elt F))
    {hx : ((Memref.whole ⟨.vmem, i, hκ⟩ : Memref sig .tc .vmem _ _).access (Rect.unit off (sig.tyNear .tc .vmem i).shape.size inb)).Stores Finset.univ}
    {hm : (Finset.univ : Finset (Rect.unit off (sig.tyNear .tc .vmem i).shape.size inb).shape.Idx) = Finset.univ ∨ ∀ a, (Rect.unit off (sig.tyNear .tc .vmem i).shape.size inb).stride a = 1}
    (f : (sig.tyNear .tc .vmem i).Contents (Elt F)) {α : Type}
    {k : PUnit → Prog (TpuEff nD τ sig (Elt F) Λ₀ .tc) α} {Q : α → sProp 𝕄} :
    pt c ⟨.vmem, i, hκ⟩ f ⊢ iprop((pt c ⟨.vmem, i, hκ⟩ X -∗ WP c (k ⟨⟩) Q) -∗ WP c (.op (.store (Memref.whole ⟨.vmem, i, hκ⟩) (Rect.unit off (sig.tyNear .tc .vmem i).shape.size inb) X Finset.univ hx hm) k) Q) := by
  iintro H Hk
  iapply (wp_store 𝒱₀ (c : Thread nD τ) none Set.univ (m := Memref.whole ⟨.vmem, i, hκ⟩) (r := Rect.unit off (sig.tyNear .tc .vmem i).shape.size inb) (w := X) (Mk := Finset.univ) (hx := hx) (hm := hm)
    (S := Finset.univ) (f := f) (Finset.subset_univ _)) $$ H
  rw [Memref.write_access_unit_zero_univ (Elt F) ⟨.vmem, i, hκ⟩ h inb f X]
  iexact Hk

/-! ## The weights -/

/-- The rounds of weight cell i still to pay, n of them. -/
def tks (i : Fin 2) : ℕ → sProp 𝕄
  | 0 => iprop(emp)
  | n + 1 => iprop(dutyTok (ER (F := F)) (wtC c i) (3 - n) () ∗ tks i n)

theorem tks_step (i : Fin 2) (r : Fin 4) : tks (F := F) c i (4 - r.val) ⊢ iprop(dutyTok (ER (F := F)) (wtC c i) r.val () ∗ tks (F := F) c i (3 - r.val)) := by
  have h : 4 - r.val = (3 - r.val) + 1 := by omega
  have h' : 3 - (3 - r.val) = r.val := by omega
  rw [h]
  show iprop(dutyTok (ER (F := F)) (wtC c i) (3 - (3 - r.val)) () ∗ tks (F := F) c i (3 - r.val)) ⊢ _
  rw [h']

/-- Weight matrix 1 before round r: its cell, the payments left, its source and its buffer. -/
def idle1 (r : ℕ) : sProp 𝕄 :=
  iprop(atPos (ER (F := F)) (wtC c 0) r ∅ 0 ∗ reached (ER (F := F)) (wtC c 0) r ∗ tks (F := F) c 0 (4 - r) ∗ pt c main_arg2 (I c).v1
    ∗ ∃ f, pt (F := F) c cc0_scratch4 f)
/-- While round r's copy is under way. -/
def fly1 (r : ℕ) : sProp 𝕄 :=
  iprop(atPos (ER (F := F)) (wtC c 0) r ∅ 0 ∗ cred (tallyAt (wtC c 0) () (NW 0)) ∗ tks (F := F) c 0 (3 - r)
    ∗ ∃ S : Finset _, ⌜∀ e : Fin 4, e.val = r → S = (sV1 e).view.set⌝ ∗ (c : Thread nD τ).loc main_arg2 ↦[Finset.univ \ S]{fullShare} (I c).v1)
/-- Once it has landed. -/
def got1 (r : Fin 4) : sProp 𝕄 :=
  iprop(atPos (ER (F := F)) (wtC c 0) (r.val + 1) ∅ 0 ∗ reached (ER (F := F)) (wtC c 0) (r.val + 1) ∗ tks (F := F) c 0 (3 - r.val) ∗ pt c main_arg2 (I c).v1
    ∗ pt c cc0_scratch4 (w1At (I c) r))

def idle2 (r : ℕ) : sProp 𝕄 :=
  iprop(atPos (ER (F := F)) (wtC c 1) r ∅ 0 ∗ reached (ER (F := F)) (wtC c 1) r ∗ tks (F := F) c 1 (4 - r) ∗ pt c main_arg3 (I c).v2
    ∗ ∃ f, pt (F := F) c cc0_scratch5 f)
def fly2 (r : ℕ) : sProp 𝕄 :=
  iprop(atPos (ER (F := F)) (wtC c 1) r ∅ 0 ∗ cred (tallyAt (wtC c 1) () (NW 1)) ∗ tks (F := F) c 1 (3 - r)
    ∗ ∃ S : Finset _, ⌜∀ e : Fin 4, e.val = r → S = (sV2 e).view.set⌝ ∗ (c : Thread nD τ).loc main_arg3 ↦[Finset.univ \ S]{fullShare} (I c).v2)
def got2 (r : Fin 4) : sProp 𝕄 :=
  iprop(atPos (ER (F := F)) (wtC c 1) (r.val + 1) ∅ 0 ∗ reached (ER (F := F)) (wtC c 1) (r.val + 1) ∗ tks (F := F) c 1 (3 - r.val) ∗ pt c main_arg3 (I c).v2
    ∗ pt c cc0_scratch5 (w2At (I c) r))

theorem got1_idle (r : Fin 4) : got1 I c r ⊢ idle1 I c (r.val + 1) := by
  unfold got1 idle1
  have h : 4 - (r.val + 1) = 3 - r.val := by omega
  rw [h]
  iintro ⟨H1, H2, H3, H4, H5⟩
  isplitl [H1]; · iexact H1
  isplitl [H2]; · iexact H2
  isplitl [H3]; · iexact H3
  isplitl [H4]; · iexact H4
  iexists _; iexact H5
theorem got2_idle (r : Fin 4) : got2 I c r ⊢ idle2 I c (r.val + 1) := by
  unfold got2 idle2
  have h : 4 - (r.val + 1) = 3 - r.val := by omega
  rw [h]
  iintro ⟨H1, H2, H3, H4, H5⟩
  isplitl [H1]; · iexact H1
  isplitl [H2]; · iexact H2
  isplitl [H3]; · iexact H3
  isplitl [H4]; · iexact H4
  iexists _; iexact H5

/-- Starting round r's copy of the first weight matrix. -/
theorem step_wstart1 (r : Fin 4) {hsrc : (sV1 r).view.WordExact} {hdst : mW1.view.WordExact}
    {hsem : DmaTarget.Typed (nD := nD) (τ := τ) (p := .tc) .hbm (.dma (wS 0)) (.here mW1)} {α : Type}
    {k : PUnit → Prog (TpuEff nD τ sig (Elt F) Λ₀ .tc) α} {Q : α → sProp 𝕄} :
    iprop(ctx I K c ∗ idle1 I c r.val)
      ⊢ iprop((fly1 I c r.val -∗ WP c (k ⟨⟩) Q) -∗ WP c (.op (.enqueueDma (sV1 r) (.here mW1) (.dma (wS 0)) hsrc hdst hsem) k) Q) := by
  unfold idle1 fly1
  iintro ⟨#Hc, Ha, #Hr, Ht, Hv, ⟨%f, Hb⟩⟩ Hk
  ihave #Hi := ctx_wt I K c 0 $$ Hc
  icases (tks_step c 0 r) $$ Ht with ⟨Ht, Htt⟩
  icases (pointsTo_split_subset (f := (I c).v1) (q := fullShare) (Finset.subset_univ (sV1 r).view.set)).1 $$ Hv with ⟨Hs, Hv⟩
  iapply (Rounds.wp_copy_pointsTo 𝒱₀ ER (sched I) (c : Thread nD τ) none (src := sV1 r) (dst := mW1) (sem := .dma (wS 0)) (q := fullShare) (fs := (I c).v1) (fd := f)
    (r := r.val) (d := ()) (κ := K (wtC c 0)) (by rw [duties_wt]; exact Finset.mem_singleton_self _) () (NW 0) rfl (amount_wt I c 0 r.val ())
    (by rw [payload_wt]; unfold wtPay v1At; rw [if_pos rfl]
        iintro ⟨Hd, Hs⟩
        isplitl [Hd]
        · rw [show mW1.view.write (Elt F) f ((sV1 r).view.read (Elt F) (I c).v1) Finset.univ = w1At (I c) r from View.write_whole_univ cc0_scratch4 f _,
            show (mW1.view.set) = Finset.univ from View.set_whole cc0_scratch4]
          iexact Hd
        iexact Hs)) $$ [Hb Hs Ht]
  · isplitr; · iexact Hi
    isplitl [Hs]; · iexact Hs
    isplitl [Hb]
    · rw [show (mW1.view.set) = Finset.univ from View.set_whole cc0_scratch4]; iexact Hb
    isplitl [Ht]; · iexact Ht
    iexact Hr
  iintro Hcr
  iapply Hk
  isplitl [Ha]; · iexact Ha
  isplitl [Hcr]; · iexact Hcr
  isplitl [Htt]; · iexact Htt
  iexists (sV1 r).view.set
  isplitr
  · ipureintro; intro e he; rw [Fin.ext he]
  iexact Hv

/-- Starting round r's copy of the second weight matrix. -/
theorem step_wstart2 (r : Fin 4) {hsrc : (sV2 r).view.WordExact} {hdst : mW2.view.WordExact}
    {hsem : DmaTarget.Typed (nD := nD) (τ := τ) (p := .tc) .hbm (.dma (wS 1)) (.here mW2)} {α : Type}
    {k : PUnit → Prog (TpuEff nD τ sig (Elt F) Λ₀ .tc) α} {Q : α → sProp 𝕄} :
    iprop(ctx I K c ∗ idle2 I c r.val)
      ⊢ iprop((fly2 I c r.val -∗ WP c (k ⟨⟩) Q) -∗ WP c (.op (.enqueueDma (sV2 r) (.here mW2) (.dma (wS 1)) hsrc hdst hsem) k) Q) := by
  unfold idle2 fly2
  iintro ⟨#Hc, Ha, #Hr, Ht, Hv, ⟨%f, Hb⟩⟩ Hk
  ihave #Hi := ctx_wt I K c 1 $$ Hc
  icases (tks_step c 1 r) $$ Ht with ⟨Ht, Htt⟩
  icases (pointsTo_split_subset (f := (I c).v2) (q := fullShare) (Finset.subset_univ (sV2 r).view.set)).1 $$ Hv with ⟨Hs, Hv⟩
  iapply (Rounds.wp_copy_pointsTo 𝒱₀ ER (sched I) (c : Thread nD τ) none (src := sV2 r) (dst := mW2) (sem := .dma (wS 1)) (q := fullShare) (fs := (I c).v2) (fd := f)
    (r := r.val) (d := ()) (κ := K (wtC c 1)) (by rw [duties_wt]; exact Finset.mem_singleton_self _) () (NW 1) rfl (amount_wt I c 1 r.val ())
    (by rw [payload_wt]; unfold wtPay v2At; rw [if_neg (by decide)]
        iintro ⟨Hd, Hs⟩
        isplitl [Hd]
        · rw [show mW2.view.write (Elt F) f ((sV2 r).view.read (Elt F) (I c).v2) Finset.univ = w2At (I c) r from View.write_whole_univ cc0_scratch5 f _,
            show (mW2.view.set) = Finset.univ from View.set_whole cc0_scratch5]
          iexact Hd
        iexact Hs)) $$ [Hb Hs Ht]
  · isplitr; · iexact Hi
    isplitl [Hs]; · iexact Hs
    isplitl [Hb]
    · rw [show (mW2.view.set) = Finset.univ from View.set_whole cc0_scratch5]; iexact Hb
    isplitl [Ht]; · iexact Ht
    iexact Hr
  iintro Hcr
  iapply Hk
  isplitl [Ha]; · iexact Ha
  isplitl [Hcr]; · iexact Hcr
  isplitl [Htt]; · iexact Htt
  iexists (sV2 r).view.set
  isplitr
  · ipureintro; intro e he; rw [Fin.ext he]
  iexact Hv

/-- Waiting for round r's copy of the first weight matrix. -/
theorem step_wwait1 (r : Fin 4) (kk : ℕ) (hkk : kk ≤ 8) {hsrc : (sV1 r).view.WordExact} {hdst : mW1.view.WordExact} {α : Type}
    {k : PUnit → Prog (TpuEff nD τ sig (Elt F) Λ₀ .tc) α} {Q : α → sProp 𝕄} :
    iprop(ctx I K c ∗ OW (F := F) c kk ∗ fly1 I c r.val)
      ⊢ iprop(((OW (F := F) c kk ∗ got1 I c r) -∗ WP c (k ⟨⟩) Q) -∗ WP c (.op (.waitDma2 (wS 0) (sV1 r) mW1 hsrc hdst) k) Q) := by
  unfold OW fly1 got1
  iintro ⟨#Hc, ⟨%W, HO⟩, Ha, Hcr, Ht, ⟨%S, %hS, Hv⟩⟩ Hk
  obtain rfl := hS r rfl
  ihave #Hi := ctx_wt I K c 0 $$ Hc
  ihave #Hl := ctx_lev I K c $$ Hc
  iapply (Rounds.wp_wait_rest_token 𝒱₀ ER (sched I) (c : Thread nD τ) none (κ := K (wtC c 0)) (wpE_waitDma2_eq 𝒱₀ (c : Thread nD τ) none Set.univ)
    (Set.mem_univ _) () (O := owed c kk) (W := W) (R := r.val) (m := 0) (T := ∅) (by rw [expect_wt]; exact Nat.zero_add _)) $$ [HO Ha Hcr]
  · isplitr; · iexact Hi
    isplitl [Hcr]; · iexact Hcr
    isplitl [HO]; · iexact HO
    isplitr
    · iapply (mayWait c _ kk hkk (by rw [use_wt]; show 0 + kk < 10; omega)); iexact Hl
    iexact Ha
  rw [rest_wt]
  unfold wtPay
  rw [if_pos rfl]
  iintro ⟨HO, Ha, Hr, Hb, Hs⟩
  iapply Hk
  isplitl [HO]
  · iexists _; iexact HO
  isplitl [Ha]; · iexact Ha
  isplitl [Hr]; · iexact Hr
  isplitl [Ht]; · iexact Ht
  isplitr [Hb]
  · iapply (pointsTo_split_subset (f := (I c).v1) (q := fullShare) (Finset.subset_univ (sV1 r).view.set)).2
    unfold v1At
    isplitl [Hs]; · iexact Hs
    iexact Hv
  iexact Hb

/-- Waiting for round r's copy of the second weight matrix. -/
theorem step_wwait2 (r : Fin 4) (kk : ℕ) (hkk : kk ≤ 8) {hsrc : (sV2 r).view.WordExact} {hdst : mW2.view.WordExact} {α : Type}
    {k : PUnit → Prog (TpuEff nD τ sig (Elt F) Λ₀ .tc) α} {Q : α → sProp 𝕄} :
    iprop(ctx I K c ∗ OW (F := F) c kk ∗ fly2 I c r.val)
      ⊢ iprop(((OW (F := F) c kk ∗ got2 I c r) -∗ WP c (k ⟨⟩) Q) -∗ WP c (.op (.waitDma2 (wS 1) (sV2 r) mW2 hsrc hdst) k) Q) := by
  unfold OW fly2 got2
  iintro ⟨#Hc, ⟨%W, HO⟩, Ha, Hcr, Ht, ⟨%S, %hS, Hv⟩⟩ Hk
  obtain rfl := hS r rfl
  ihave #Hi := ctx_wt I K c 1 $$ Hc
  ihave #Hl := ctx_lev I K c $$ Hc
  iapply (Rounds.wp_wait_rest_token 𝒱₀ ER (sched I) (c : Thread nD τ) none (κ := K (wtC c 1)) (wpE_waitDma2_eq 𝒱₀ (c : Thread nD τ) none Set.univ)
    (Set.mem_univ _) () (O := owed c kk) (W := W) (R := r.val) (m := 0) (T := ∅) (by rw [expect_wt]; exact Nat.zero_add _)) $$ [HO Ha Hcr]
  · isplitr; · iexact Hi
    isplitl [Hcr]; · iexact Hcr
    isplitl [HO]; · iexact HO
    isplitr
    · iapply (mayWait c _ kk hkk (by rw [use_wt]; show 0 + kk < 10; omega)); iexact Hl
    iexact Ha
  rw [rest_wt]
  unfold wtPay
  rw [if_neg (by decide)]
  iintro ⟨HO, Ha, Hr, Hb, Hs⟩
  iapply Hk
  isplitl [HO]
  · iexists _; iexact HO
  isplitl [Ha]; · iexact Ha
  isplitl [Hr]; · iexact Hr
  isplitl [Ht]; · iexact Ht
  isplitr [Hb]
  · iapply (pointsTo_split_subset (f := (I c).v2) (q := fullShare) (Finset.subset_univ (sV2 r).view.set)).2
    unfold v2At
    isplitl [Hs]; · iexact Hs
    iexact Hv
  iexact Hb

/-- Loading the first weight buffer once round r's copy has landed. -/
theorem step_wgot1 (r : Fin 4) {off : Fin S1024x2048.rank → ℕ} (h : off = fun _ => 0) {inb : ∀ a, off a + S1024x2048.size a ≤ S1024x2048.size a}
    {hl : mW1.view.LoadsAt (Rect.unit off S1024x2048.size inb).toLoadRect} {α : Type}
    {k : Vec F S1024x2048 .f32 → Prog (TpuEff nD τ sig (Elt F) Λ₀ .tc) α} {Q : α → sProp 𝕄} :
    got1 I c r ⊢ iprop((got1 I c r -∗ WP c (k (w1At (I c) r)) Q) -∗ WP c (.op (.load mW1 (Rect.unit off S1024x2048.size inb).toLoadRect hl) k) Q) := by
  unfold got1
  iintro ⟨H1, H2, H3, H4, H5⟩ Hk
  iapply (step_wload c 8 h (w1At (I c) r)) $$ H5
  iintro H5
  iapply Hk
  isplitl [H1]; · iexact H1
  isplitl [H2]; · iexact H2
  isplitl [H3]; · iexact H3
  isplitl [H4]; · iexact H4
  iexact H5

/-- Loading the second weight buffer once round r's copy has landed. -/
theorem step_wgot2 (r : Fin 4) {off : Fin S2048x1024.rank → ℕ} (h : off = fun _ => 0) {inb : ∀ a, off a + S2048x1024.size a ≤ S2048x1024.size a}
    {hl : mW2.view.LoadsAt (Rect.unit off S2048x1024.size inb).toLoadRect} {α : Type}
    {k : Vec F S2048x1024 .f32 → Prog (TpuEff nD τ sig (Elt F) Λ₀ .tc) α} {Q : α → sProp 𝕄} :
    got2 I c r ⊢ iprop((got2 I c r -∗ WP c (k (w2At (I c) r)) Q) -∗ WP c (.op (.load mW2 (Rect.unit off S2048x1024.size inb).toLoadRect hl) k) Q) := by
  unfold got2
  iintro ⟨H1, H2, H3, H4, H5⟩ Hk
  iapply (step_wload c 9 h (w2At (I c) r)) $$ H5
  iintro H5
  iapply Hk
  isplitl [H1]; · iexact H1
  isplitl [H2]; · iexact H2
  isplitl [H3]; · iexact H3
  isplitl [H4]; · iexact H4
  iexact H5

/-- Filling the chunk copy j is to send; its old contents are loaded first and not looked at. -/
theorem step_fill (j : Fin 8) {X : Vec F S1x320x1024 .bf16} (hX : X = out I c j) {hl : (mC (srcI j)).view.LoadsAt (rC (ecI j)).toLoadRect}
    {hx : ((mC (srcI j)).access (rC (ecI j))).Stores Finset.univ}
    {hm : (Finset.univ : Finset (rC (ecI j)).shape.Idx) = Finset.univ ∨ ∀ a, (rC (ecI j)).stride a = 1} {α : Type}
    {k : PUnit → Prog (TpuEff nD τ sig (Elt F) Λ₀ .tc) α} {Q : α → sProp 𝕄} :
    chAny (F := F) c (mC (srcI j)) (ecI j) ⊢ iprop((chIs c (mC (srcI j)) (ecI j) (out I c j) -∗ WP c (k ⟨⟩) Q)
      -∗ WP c (.op (.load (mC (srcI j)) (rC (ecI j)).toLoadRect hl) fun _ => .op (.store (mC (srcI j)) (rC (ecI j)) X Finset.univ hx hm) k) Q) := by
  subst hX
  iintro H Hk
  iapply (step_peek c (mC (srcI j)) (ecI j)) $$ H
  iintro %v H
  iapply (step_store c (mC (srcI j)) (ecI j)) $$ H
  iexact Hk

/-- A piece of the body that only returns. -/
theorem step_ret {α : Type} {a : α} {Q : α → sProp 𝕄} :
    Q a ⊢ wp frame (wpE (defs₀ (F := F)) 𝒱₀ (c : Thread nD τ) none) Set.univ (Prog.ret a) Q := by
  rw [wp_ret]; iintro H; imodintro; iexact H

/-- The results device c sends back are its answers to what its partner sent. -/
theorem out_answer (e : Fin 4) : out I c ⟨e.val + 4, by omega⟩ = answer (I c) e (out I (peer c) ⟨e.val, by omega⟩) := by
  have h4 : ¬ e.val + 4 < 4 := by omega
  unfold out
  rw [dif_neg h4, dif_pos e.isLt]
  congr

end Cert.KernelIdeal.Talk

end
-- ==== Proof.Parts.lean ====
/-
  The kernel's body on a symbolic device, one printed part after the other.
-/
module

public import proofs.«01_k».proof.Proof.Steps

@[expose] public section

set_option maxRecDepth 16384

noncomputable section

namespace Cert.KernelIdeal.Talk

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

attribute [local instance] Cert.KernelIdeal.Gen.facts

local notation "𝕄" => MT nD τ sig Unit (Elt F) ℕ UU ℕ

variable (I : Dev nD → Inp F) (K : GSem nD τ sig → ℕ) (c : Dev nD)

/-- A part of the body at this kernel's buffers and semaphores. -/
abbrev onArgs {β : Type*} (p : ∀ (a0 : Memref sig .tc .vmem S2048x1024 .bf16) (_ : a0.IsWhole) (a1 : Memref sig .tc .vmem S1x2048 .i32) (_ : a1.IsWhole) (a2 : Memref sig .tc .vmem S1x2048 .i32) (_ : a2.IsWhole) (a3 : Memref sig .tc .hbm S4x1024x2048 .f32) (_ : a3.IsWhole) (a4 : Memref sig .tc .hbm S4x2048x1024 .f32) (_ : a4.IsWhole) (a5 : Memref sig .tc .vmem S2048x1024 .bf16) (_ : a5.IsWhole) (a6 : Memref sig .tc .vmem S4x320x1024 .bf16) (_ : a6.IsWhole) (a7 : Memref sig .tc .vmem S4x320x1024 .bf16) (_ : a7.IsWhole) (a8 : Memref sig .tc .vmem S4x320x1024 .bf16) (_ : a8.IsWhole) (a9 : Memref sig .tc .vmem S4x320x1024 .bf16) (_ : a9.IsWhole) (a10 : Memref sig .tc .vmem S1024x2048 .f32) (_ : a10.IsWhole) (a11 : Memref sig .tc .vmem S2048x1024 .f32) (_ : a11.IsWhole) (_ _ _ _ : DmaSems sig S4) (_ _ : DmaSems sig S_), β) : β :=
  p mX (Memref.isWhole_whole _) mA (Memref.isWhole_whole _) mR (Memref.isWhole_whole _) mV1 (Memref.isWhole_whole _) mV2 (Memref.isWhole_whole _) mO (Memref.isWhole_whole _) (mC 0) (Memref.isWhole_whole _) (mC 1) (Memref.isWhole_whole _) (mC 2) (Memref.isWhole_whole _) (mC 3) (Memref.isWhole_whole _) mW1 (Memref.isWhole_whole _) mW2 (Memref.isWhole_whole _) cc0_scratch6 cc0_scratch7 cc0_scratch8 cc0_scratch9 cc0_scratch10 cc0_scratch11

/-- The first part: the barrier with the partner, the first expert's weights asked for, the tokens' experts and places read. -/
theorem part1 {Kt : _ → sProp 𝕄} :
    iprop((ctx I K c ∗ OW (F := F) c 9 ∗ (dutyTok (ER (F := F)) (barC (peer c)) 0 () ∗ reached (ER (F := F)) (barC (peer c)) 0 ∗ barPay (F := F) (peer c))
        ∗ atPos (ER (F := F)) (barC c) 0 ∅ 0 ∗ cred (tallyAt (barC c) () 1) ∗ idle1 I c 0 ∗ idle2 I c 0 ∗ pt c cc0_stg1_0 (I c).asg ∗ pt c cc0_stg2_0 (I c).rnk)
      ∗ (∀ a b d, (OW (F := F) c 8 ∗ atPos (ER (F := F)) (barC c) (0 + 1) ∅ 0 ∗ bigSep Finset.univ (fun j => slot (F := F) c j)
          ∗ fly1 I c 0 ∗ fly2 I c 0 ∗ pt c cc0_stg1_0 (I c).asg ∗ pt c cc0_stg2_0 (I c).rnk)
          -∗ Kt ⟨c, a, b, d, mine c, other c, rows, k0_pay2 (F := F) (I c).asg, (I c).rnk⟩))
      ⊢ WP c (onArgs (k0_part1 (F := F))) Kt := by
  rw [k0_part1_eq_skeleton]
  unfold k0_part1_skel
  simp only [semSignalWord, semWaitWord, Prog.lift, Prog.bind_op, Prog.bind_ret, Prog.pure_eq_ret, wp_deviceId]
  iintro ⟨⟨#Hc, HO, ⟨Ht, Hr, Hp⟩, Ha, Hcr, H1, H2, Hg, Hk⟩, HK⟩
  iapply (step_signal I K c (n := ⟨k0_dev1 c, k0_dev1_lt c⟩) (hn := dev1_eq c)) $$ [HO Ht Hr Hp]
  · isplitr; · iexact Hc
    isplitl [HO]; · iexact HO
    isplitl [Ht]; · iexact Ht
    isplitl [Hr]; · iexact Hr
    iexact Hp
  iintro HO
  iapply (step_barrier I K c) $$ [HO Ha Hcr]
  · isplitr; · iexact Hc
    isplitl [HO]; · iexact HO
    isplitl [Ha]; · iexact Ha
    iexact Hcr
  iintro ⟨HO, Ha, Hs⟩
  iapply (step_wstart1 I K c 0) $$ [H1]
  · isplitr; · iexact Hc
    iexact H1
  iintro H1
  iapply (step_wstart2 I K c 0) $$ [H2]
  · isplitr; · iexact Hc
    iexact H2
  iintro H2
  iapply (step_wload c 1 (by decide) (I c).asg) $$ Hg
  iintro Hg
  iapply (step_wload c 2 (by decide) (I c).rnk) $$ Hk
  iintro Hk
  iapply (step_ret c)
  iapply HK
  isplitl [HO]; · iexact HO
  isplitl [Ha]; · iexact Ha
  isplitl [Hs]; · iexact Hs
  isplitl [H1]; · iexact H1
  isplitl [H2]; · iexact H2
  isplitl [Hg]; · iexact Hg
  iexact Hk

/-- The second part: the tokens read, and the first chunk of them sent. -/
theorem part2 (a b d : BitVec 32) {Kt : _ → sProp 𝕄} :
    iprop((ctx I K c ∗ OW (F := F) c 8 ∗ pt c cc0_stg0_0 (I c).xb ∗ chAny (F := F) c (mC 0) 0 ∗ tok (F := F) c 0 ∗ slot (F := F) c 0)
      ∗ ((OW (F := F) c 7 ∗ pt c cc0_stg0_0 (I c).xb ∗ flying (F := F) c 0)
          -∗ Kt ⟨k0_pay3 (F := F) (I c).rnk, k0_pay4 (I c).xb, k0_pay6 (F := F) rows (I c).rnk, k0_pay7 (other c) (k0_pay2 (F := F) (I c).asg)⟩))
      ⊢ WP c (onArgs (k0_part2 (F := F)) c a b d (other c) rows (k0_pay2 (F := F) (I c).asg) (I c).rnk) Kt := by
  rw [k0_part2_eq_skeleton]
  unfold k0_part2_skel
  simp only [semSignalWord, semWaitWord, Prog.lift, Prog.bind_op, Prog.bind_ret, Prog.pure_eq_ret]
  iintro ⟨⟨#Hc, HO, Hx, Hh, Ht, Hs⟩, HK⟩
  iapply (step_wload c 0 (by decide) (I c).xb) $$ Hx
  iintro Hx
  iapply (step_fill I c 0 rfl) $$ [Hh]
  · iexact Hh
  iintro Hh
  iapply (step_send I K c 0 (n := ⟨k0_dev2 c, k0_dev2_lt c⟩) (hn := dev2_eq c)) $$ [HO Ht Hs Hh]
  · isplitr; · iexact Hc
    isplitl [HO]; · iexact HO
    isplitl [Ht]; · iexact Ht
    isplitl [Hs]; · iexact Hs
    iexact Hh
  iintro ⟨HO, Hf⟩
  iapply (step_ret c)
  iapply HK
  isplitl [HO]; · iexact HO
  isplitl [Hx]; · iexact Hx
  iexact Hf

/-- The third part: the second chunk sent, the third worked out. -/
theorem part3 (a b d : BitVec 32) {Kt : _ → sProp 𝕄} :
    iprop((ctx I K c ∗ OW (F := F) c 7 ∗ tok (F := F) c 1 ∗ slot (F := F) c 1 ∗ chAny (F := F) c (mC 0) 1 ∗ chAny (F := F) c (mC 0) 2)
      ∗ ((OW (F := F) c 6 ∗ flying (F := F) c 1 ∗ chAny (F := F) c (mC 0) 2) -∗ Kt (k0_pay9 (other c) rows (k0_pay2 (F := F) (I c).asg) (k0_pay3 (F := F) (I c).rnk) (k0_pay4 (I c).xb))))
      ⊢ WP c (onArgs (k0_part3 (F := F)) c a b d (other c) rows (k0_pay2 (F := F) (I c).asg) (k0_pay3 (F := F) (I c).rnk) (k0_pay4 (I c).xb) (k0_pay6 (F := F) rows (I c).rnk) (k0_pay7 (other c) (k0_pay2 (F := F) (I c).asg))) Kt := by
  rw [k0_part3_eq_skeleton]
  unfold k0_part3_skel
  simp only [Prog.lift, Prog.bind_op, Prog.bind_ret, Prog.pure_eq_ret]
  iintro ⟨⟨#Hc, HO, Ht, Hs, Hh, Hn⟩, HK⟩
  iapply (step_fill I c 1 rfl) $$ [Hh]
  · iexact Hh
  iintro Hh
  iapply (step_send I K c 1 (n := ⟨k0_dev3 c, k0_dev3_lt c⟩) (hn := dev3_eq c)) $$ [HO Ht Hs Hh]
  · isplitr; · iexact Hc
    isplitl [HO]; · iexact HO
    isplitl [Ht]; · iexact Ht
    isplitl [Hs]; · iexact Hs
    iexact Hh
  iintro ⟨HO, Hf⟩
  iapply (step_peek c (mC 0) 2) $$ Hn
  iintro %v Hn
  iapply (step_ret c)
  iapply HK
  isplitl [HO]; · iexact HO
  isplitl [Hf]; · iexact Hf
  iexact Hn

/-- The fourth part: the third chunk sent, the fourth filled. -/
theorem part4 (a b d : BitVec 32) {Kt : _ → sProp 𝕄} :
    iprop((ctx I K c ∗ OW (F := F) c 6 ∗ tok (F := F) c 2 ∗ slot (F := F) c 2 ∗ chAny (F := F) c (mC 0) 2 ∗ chAny (F := F) c (mC 0) 3)
      ∗ (∀ u w, (OW (F := F) c 5 ∗ flying (F := F) c 2 ∗ chIs c (mC 0) 3 (out I c 3)) -∗ Kt ⟨u, w⟩))
      ⊢ WP c (onArgs (k0_part4 (F := F)) c a b d (other c) rows (k0_pay2 (F := F) (I c).asg) (k0_pay3 (F := F) (I c).rnk) (k0_pay4 (I c).xb) (k0_pay9 (other c) rows (k0_pay2 (F := F) (I c).asg) (k0_pay3 (F := F) (I c).rnk) (k0_pay4 (I c).xb))) Kt := by
  rw [k0_part4_eq_skeleton]
  unfold k0_part4_skel
  simp only [Prog.lift, Prog.bind_op, Prog.bind_ret, Prog.pure_eq_ret]
  iintro ⟨⟨#Hc, HO, Ht, Hs, Hh, Hn⟩, HK⟩
  iapply (step_store c (mC 0) 2) $$ Hh
  iintro Hh
  iapply (step_send I K c 2 (n := ⟨k0_dev4 c, k0_dev4_lt c⟩) (hn := dev4_eq c)) $$ [HO Ht Hs Hh]
  · isplitr; · iexact Hc
    isplitl [HO]; · iexact HO
    isplitl [Ht]; · iexact Ht
    isplitl [Hs]; · iexact Hs
    iexact Hh
  iintro ⟨HO, Hf⟩
  iapply (step_fill I c 3 rfl) $$ [Hn]
  · iexact Hn
  iintro Hn
  iapply (step_ret c)
  iapply HK
  isplitl [HO]; · iexact HO
  isplitl [Hf]; · iexact Hf
  iexact Hn

/-- The fifth part: the fourth chunk sent, the result cleared, the first expert's weights taken and the second's asked for. -/
theorem part5 (a b d : BitVec 32) {Kt : _ → sProp 𝕄} :
    iprop((ctx I K c ∗ OW (F := F) c 5 ∗ tok (F := F) c 3 ∗ slot (F := F) c 3 ∗ chIs c (mC 0) 3 (out I c 3) ∗ (∃ f, pt (F := F) c cc0_stg3_0 f) ∗ fly1 I c 0 ∗ fly2 I c 0)
      ∗ ((OW (F := F) c 4 ∗ flying (F := F) c 3 ∗ pt c cc0_stg3_0 (k0_pay12 (F := F)) ∗ fly1 I c 1 ∗ fly2 I c 1) -∗ Kt ⟨k0_pay13 (w1At (I c) 0), k0_pay14 (w2At (I c) 0), k0_pay15 (mine c) (k0_pay2 (F := F) (I c).asg), k0_pay16 (k0_pay3 (F := F) (I c).rnk)⟩))
      ⊢ WP c (onArgs (k0_part5 (F := F)) c a (mine c) (k0_pay2 (F := F) (I c).asg) (k0_pay3 (F := F) (I c).rnk) b d) Kt := by
  rw [k0_part5_eq_skeleton]
  unfold k0_part5_skel
  simp only [Prog.lift, Prog.bind_op, Prog.bind_ret, Prog.pure_eq_ret]
  iintro ⟨⟨#Hc, HO, Ht, Hs, Hh, Ho, H1, H2⟩, HK⟩
  iapply (step_send I K c 3 (n := ⟨k0_dev5 c, k0_dev5_lt c⟩) (hn := dev5_eq c)) $$ [HO Ht Hs Hh]
  · isplitr; · iexact Hc
    isplitl [HO]; · iexact HO
    isplitl [Ht]; · iexact Ht
    isplitl [Hs]; · iexact Hs
    iexact Hh
  iintro ⟨HO, Hf⟩
  icases Ho with ⟨%f, Ho⟩
  iapply (step_wload c 3 (by decide) f) $$ [Ho]
  · iexact Ho
  iintro Ho
  iapply (step_wstore c 3 (by decide) (k0_pay12 (F := F)) f) $$ [Ho]
  · iexact Ho
  iintro Ho
  iapply (step_wwait1 I K c 0 4 (by omega)) $$ [HO H1]
  · isplitr; · iexact Hc
    isplitl [HO]; · iexact HO
    iexact H1
  iintro ⟨HO, H1⟩
  iapply (step_wwait2 I K c 0 4 (by omega)) $$ [HO H2]
  · isplitr; · iexact Hc
    isplitl [HO]; · iexact HO
    iexact H2
  iintro ⟨HO, H2⟩
  iapply (step_wgot1 I c 0 (by decide)) $$ H1
  iintro H1
  iapply (step_wgot2 I c 0 (by decide)) $$ H2
  iintro H2
  ihave H1 := got1_idle I c 0 $$ H1
  ihave H2 := got2_idle I c 0 $$ H2
  iapply (step_wstart1 I K c 1) $$ [H1]
  · isplitr; · iexact Hc
    iexact H1
  iintro H1
  iapply (step_wstart2 I K c 1) $$ [H2]
  · isplitr; · iexact Hc
    iexact H2
  iintro H2
  iapply (step_ret c)
  iapply HK
  isplitl [HO]; · iexact HO
  isplitl [Hf]; · iexact Hf
  isplitl [Ho]; · iexact Ho
  isplitl [H1]; · iexact H1
  iexact H2

/-- The sixth part: the device's own first expert. -/
theorem part6 (a b d : BitVec 32) {Kt : _ → sProp 𝕄} :
    iprop((ctx I K c ∗ OW (F := F) c 4 ∗ pt c cc0_stg3_0 (k0_pay12 (F := F)) ∗ atPos (ER (F := F)) (sndC c 0) 0 ∅ 0 ∗ flying (F := F) c 0)
      ∗ ((OW (F := F) c 4 ∗ pt c cc0_stg3_0 (own1 c (I c)) ∗ atPos (ER (F := F)) (sndC c 0) (0 + 1) ∅ 0 ∗ chAny (F := F) c (mC 0) 0) -∗ Kt ⟨⟩))
      ⊢ WP c (onArgs (k0_part6 (F := F)) a b d rows (k0_pay4 (I c).xb) (k0_pay13 (w1At (I c) 0)) (k0_pay14 (w2At (I c) 0)) (k0_pay15 (mine c) (k0_pay2 (F := F) (I c).asg)) (k0_pay16 (k0_pay3 (F := F) (I c).rnk))) Kt := by
  rw [k0_part6_eq_skeleton]
  unfold k0_part6_skel
  simp only [Prog.lift, Prog.bind_op, Prog.bind_ret, Prog.pure_eq_ret]
  iintro ⟨⟨#Hc, HO, Ho, Ha, Hf⟩, HK⟩
  iapply (step_wload c 3 (by decide) (k0_pay12 (F := F))) $$ [Ho]
  · iexact Ho
  iintro Ho
  iapply (step_wload c 3 (by decide) (k0_pay12 (F := F))) $$ [Ho]
  · iexact Ho
  iintro Ho
  iapply (step_wstore c 3 (by decide) (own1 c (I c)) (k0_pay12 (F := F))) $$ [Ho]
  · iexact Ho
  iintro Ho
  iapply (step_sent I K c 0 4 (by omega)) $$ [HO Ha Hf]
  · isplitr; · iexact Hc
    isplitl [HO]; · iexact HO
    isplitl [Ha]; · iexact Ha
    iexact Hf
  iintro ⟨HO, Ha, Hb⟩
  iapply (step_ret c)
  iapply HK
  isplitl [HO]; · iexact HO
  isplitl [Ho]; · iexact Ho
  isplitl [Ha]; · iexact Ha
  iexact Hb

/-- The seventh part: the first expert on the partner's tokens, sent back. -/
theorem part7 (a b d : BitVec 32) {Kt : _ → sProp 𝕄} :
    iprop((ctx I K c ∗ OW (F := F) c 4 ∗ atPos (ER (F := F)) (rcvC c 0) 0 ∅ 0 ∗ cred (tallyAt (rcvC c 0) () NC) ∗ chAny (F := F) c (mC 1) 0 ∗ tok (F := F) c 4 ∗ slot (F := F) c 4)
      ∗ ((OW (F := F) c 3 ∗ atPos (ER (F := F)) (rcvC c 0) (0 + 1) ∅ 0 ∗ chIs c (mC 2) 0 (out I (peer c) 0) ∗ flying (F := F) c 4) -∗ Kt ⟨⟩))
      ⊢ WP c (onArgs (k0_part7 (F := F)) c a b d (k0_pay13 (w1At (I c) 0)) (k0_pay14 (w2At (I c) 0))) Kt := by
  rw [k0_part7_eq_skeleton]
  unfold k0_part7_skel
  simp only [Prog.lift, Prog.bind_op, Prog.bind_ret, Prog.pure_eq_ret]
  iintro ⟨⟨#Hc, HO, Hq, Hd, Hh, Ht, Hs⟩, HK⟩
  iapply (step_received I K c 0 4 (by decide)) $$ [HO Hq Hd]
  · isplitr; · iexact Hc
    isplitl [HO]; · iexact HO
    isplitl [Hq]; · iexact Hq
    iexact Hd
  iintro ⟨HO, Hq, Hd⟩
  iapply (step_load c (mC 2) 0) $$ [Hd]
  · iexact Hd
  iintro Hd
  iapply (step_fill I c 4 (out_answer I c 0).symm) $$ [Hh]
  · iexact Hh
  iintro Hh
  iapply (step_send I K c 4 (n := ⟨k0_dev6 c, k0_dev6_lt c⟩) (hn := dev6_eq c)) $$ [HO Ht Hs Hh]
  · isplitr; · iexact Hc
    isplitl [HO]; · iexact HO
    isplitl [Ht]; · iexact Ht
    isplitl [Hs]; · iexact Hs
    iexact Hh
  iintro ⟨HO, Hf⟩
  iapply (step_ret c)
  iapply HK
  isplitl [HO]; · iexact HO
  isplitl [Hq]; · iexact Hq
  isplitl [Hd]; · iexact Hd
  iexact Hf

/-- The eighth part: the second expert's weights taken and the third's asked for. -/
theorem part8 {Kt : _ → sProp 𝕄} :
    iprop((ctx I K c ∗ OW (F := F) c 3 ∗ pt c cc0_stg3_0 (own1 c (I c)) ∗ fly1 I c 1 ∗ fly2 I c 1)
      ∗ ((OW (F := F) c 3 ∗ pt c cc0_stg3_0 (own1 c (I c)) ∗ fly1 I c 2 ∗ fly2 I c 2) -∗ Kt ⟨k0_pay19 (w1At (I c) 1), k0_pay20 (w2At (I c) 1), k0_pay21 (own1 c (I c)), k0_pay22 (mine c) rows (k0_pay2 (F := F) (I c).asg) (k0_pay3 (F := F) (I c).rnk) (k0_pay4 (I c).xb) (w1At (I c) 1) (w2At (I c) 1)⟩))
      ⊢ WP c (onArgs (k0_part8 (F := F)) (mine c) rows (k0_pay2 (F := F) (I c).asg) (k0_pay3 (F := F) (I c).rnk) (k0_pay4 (I c).xb)) Kt := by
  rw [k0_part8_eq_skeleton]
  unfold k0_part8_skel
  simp only [Prog.lift, Prog.bind_op, Prog.bind_ret, Prog.pure_eq_ret]
  iintro ⟨⟨#Hc, HO, Ho, H1, H2⟩, HK⟩
  iapply (step_wwait1 I K c 1 3 (by omega)) $$ [HO H1]
  · isplitr; · iexact Hc
    isplitl [HO]; · iexact HO
    iexact H1
  iintro ⟨HO, H1⟩
  iapply (step_wwait2 I K c 1 3 (by omega)) $$ [HO H2]
  · isplitr; · iexact Hc
    isplitl [HO]; · iexact HO
    iexact H2
  iintro ⟨HO, H2⟩
  iapply (step_wgot1 I c 1 (by decide)) $$ H1
  iintro H1
  iapply (step_wgot2 I c 1 (by decide)) $$ H2
  iintro H2
  ihave H1 := got1_idle I c 1 $$ H1
  ihave H2 := got2_idle I c 1 $$ H2
  iapply (step_wstart1 I K c 2) $$ [H1]
  · isplitr; · iexact Hc
    iexact H1
  iintro H1
  iapply (step_wstart2 I K c 2) $$ [H2]
  · isplitr; · iexact Hc
    iexact H2
  iintro H2
  iapply (step_wload c 3 (by decide) (own1 c (I c))) $$ [Ho]
  · iexact Ho
  iintro Ho
  iapply (step_ret c)
  iapply HK
  isplitl [HO]; · iexact HO
  isplitl [Ho]; · iexact Ho
  isplitl [H1]; · iexact H1
  iexact H2

/-- The ninth part: the device's own second expert, and the partner's tokens for it. -/
theorem part9 (a b d : BitVec 32) {Kt : _ → sProp 𝕄} :
    iprop((ctx I K c ∗ OW (F := F) c 3 ∗ pt c cc0_stg3_0 (own1 c (I c)) ∗ atPos (ER (F := F)) (sndC c 1) 0 ∅ 0 ∗ flying (F := F) c 1 ∗ atPos (ER (F := F)) (rcvC c 1) 0 ∅ 0 ∗ cred (tallyAt (rcvC c 1) () NC))
      ∗ ((OW (F := F) c 3 ∗ pt c cc0_stg3_0 (own2 c (I c)) ∗ atPos (ER (F := F)) (sndC c 1) (0 + 1) ∅ 0 ∗ chAny (F := F) c (mC 0) 1 ∗ atPos (ER (F := F)) (rcvC c 1) (0 + 1) ∅ 0 ∗ chIs c (mC 2) 1 (out I (peer c) 1)) -∗ Kt (k0_pay24 (k0_pay19 (w1At (I c) 1)) (k0_pay20 (w2At (I c) 1)) (out I (peer c) 1))))
      ⊢ WP c (onArgs (k0_part9 (F := F)) a b d (k0_pay19 (w1At (I c) 1)) (k0_pay20 (w2At (I c) 1)) (k0_pay21 (own1 c (I c))) (k0_pay22 (mine c) rows (k0_pay2 (F := F) (I c).asg) (k0_pay3 (F := F) (I c).rnk) (k0_pay4 (I c).xb) (w1At (I c) 1) (w2At (I c) 1))) Kt := by
  rw [k0_part9_eq_skeleton]
  unfold k0_part9_skel
  simp only [Prog.lift, Prog.bind_op, Prog.bind_ret, Prog.pure_eq_ret]
  iintro ⟨⟨#Hc, HO, Ho, Ha, Hf, Hq, Hd⟩, HK⟩
  iapply (step_wload c 3 (by decide) (own1 c (I c))) $$ [Ho]
  · iexact Ho
  iintro Ho
  iapply (step_wstore c 3 (by decide) (own2 c (I c)) (own1 c (I c))) $$ [Ho]
  · iexact Ho
  iintro Ho
  iapply (step_sent I K c 1 3 (by omega)) $$ [HO Ha Hf]
  · isplitr; · iexact Hc
    isplitl [HO]; · iexact HO
    isplitl [Ha]; · iexact Ha
    iexact Hf
  iintro ⟨HO, Ha, Hb⟩
  iapply (step_received I K c 1 3 (by decide)) $$ [HO Hq Hd]
  · isplitr; · iexact Hc
    isplitl [HO]; · iexact HO
    isplitl [Hq]; · iexact Hq
    iexact Hd
  iintro ⟨HO, Hq, Hd⟩
  iapply (step_load c (mC 2) 1) $$ [Hd]
  · iexact Hd
  iintro Hd
  iapply (step_ret c)
  iapply HK
  isplitl [HO]; · iexact HO
  isplitl [Ho]; · iexact Ho
  isplitl [Ha]; · iexact Ha
  isplitl [Hb]; · iexact Hb
  isplitl [Hq]; · iexact Hq
  iexact Hd

/-- The tenth part: the second expert's results sent back, the third's weights taken. -/
theorem part10 (a b d : BitVec 32) {Kt : _ → sProp 𝕄} :
    iprop((ctx I K c ∗ OW (F := F) c 3 ∗ chAny (F := F) c (mC 1) 1 ∗ tok (F := F) c 5 ∗ slot (F := F) c 5 ∗ fly1 I c 2 ∗ fly2 I c 2)
      ∗ ((OW (F := F) c 2 ∗ flying (F := F) c 5 ∗ got1 I c 2 ∗ got2 I c 2) -∗ Kt ⟨k0_pay26 (w1At (I c) 2), k0_pay27 (w2At (I c) 2)⟩))
      ⊢ WP c (onArgs (k0_part10 (F := F)) c a b d (k0_pay24 (k0_pay19 (w1At (I c) 1)) (k0_pay20 (w2At (I c) 1)) (out I (peer c) 1))) Kt := by
  rw [k0_part10_eq_skeleton]
  unfold k0_part10_skel
  simp only [Prog.lift, Prog.bind_op, Prog.bind_ret, Prog.pure_eq_ret]
  iintro ⟨⟨#Hc, HO, Hh, Ht, Hs, H1, H2⟩, HK⟩
  iapply (step_fill I c 5 (out_answer I c 1).symm) $$ [Hh]
  · iexact Hh
  iintro Hh
  iapply (step_send I K c 5 (n := ⟨k0_dev7 c, k0_dev7_lt c⟩) (hn := dev7_eq c)) $$ [HO Ht Hs Hh]
  · isplitr; · iexact Hc
    isplitl [HO]; · iexact HO
    isplitl [Ht]; · iexact Ht
    isplitl [Hs]; · iexact Hs
    iexact Hh
  iintro ⟨HO, Hf⟩
  iapply (step_wwait1 I K c 2 2 (by omega)) $$ [HO H1]
  · isplitr; · iexact Hc
    isplitl [HO]; · iexact HO
    iexact H1
  iintro ⟨HO, H1⟩
  iapply (step_wwait2 I K c 2 2 (by omega)) $$ [HO H2]
  · isplitr; · iexact Hc
    isplitl [HO]; · iexact HO
    iexact H2
  iintro ⟨HO, H2⟩
  iapply (step_wgot1 I c 2 (by decide)) $$ H1
  iintro H1
  iapply (step_wgot2 I c 2 (by decide)) $$ H2
  iintro H2
  iapply (step_ret c)
  iapply HK
  isplitl [HO]; · iexact HO
  isplitl [Hf]; · iexact Hf
  isplitl [H1]; · iexact H1
  iexact H2

/-- The eleventh part: the fourth expert's weights asked for, the device's own third expert. -/
theorem part11 {Kt : _ → sProp 𝕄} :
    iprop((ctx I K c ∗ OW (F := F) c 2 ∗ pt c cc0_stg3_0 (own2 c (I c)) ∗ atPos (ER (F := F)) (sndC c 2) 0 ∅ 0 ∗ flying (F := F) c 2 ∗ idle1 I c 3 ∗ idle2 I c 3)
      ∗ ((OW (F := F) c 2 ∗ pt c cc0_stg3_0 (own3 c (I c)) ∗ atPos (ER (F := F)) (sndC c 2) (0 + 1) ∅ 0 ∗ chAny (F := F) c (mC 0) 2 ∗ fly1 I c 3 ∗ fly2 I c 3) -∗ Kt ⟨⟩))
      ⊢ WP c (onArgs (k0_part11 (F := F)) (mine c) rows (k0_pay2 (F := F) (I c).asg) (k0_pay3 (F := F) (I c).rnk) (k0_pay4 (I c).xb) (k0_pay26 (w1At (I c) 2)) (k0_pay27 (w2At (I c) 2))) Kt := by
  rw [k0_part11_eq_skeleton]
  unfold k0_part11_skel
  simp only [Prog.lift, Prog.bind_op, Prog.bind_ret, Prog.pure_eq_ret]
  iintro ⟨⟨#Hc, HO, Ho, Ha, Hf, H1, H2⟩, HK⟩
  iapply (step_wstart1 I K c 3) $$ [H1]
  · isplitr; · iexact Hc
    iexact H1
  iintro H1
  iapply (step_wstart2 I K c 3) $$ [H2]
  · isplitr; · iexact Hc
    iexact H2
  iintro H2
  iapply (step_wload c 3 (by decide) (own2 c (I c))) $$ [Ho]
  · iexact Ho
  iintro Ho
  iapply (step_wload c 3 (by decide) (own2 c (I c))) $$ [Ho]
  · iexact Ho
  iintro Ho
  iapply (step_wstore c 3 (by decide) (own3 c (I c)) (own2 c (I c))) $$ [Ho]
  · iexact Ho
  iintro Ho
  iapply (step_sent I K c 2 2 (by omega)) $$ [HO Ha Hf]
  · isplitr; · iexact Hc
    isplitl [HO]; · iexact HO
    isplitl [Ha]; · iexact Ha
    iexact Hf
  iintro ⟨HO, Ha, Hb⟩
  iapply (step_ret c)
  iapply HK
  isplitl [HO]; · iexact HO
  isplitl [Ho]; · iexact Ho
  isplitl [Ha]; · iexact Ha
  isplitl [Hb]; · iexact Hb
  isplitl [H1]; · iexact H1
  iexact H2

/-- The twelfth part: the third expert on the partner's tokens. -/
theorem part12 (a b d : BitVec 32) {Kt : _ → sProp 𝕄} :
    iprop((ctx I K c ∗ OW (F := F) c 2 ∗ atPos (ER (F := F)) (rcvC c 2) 0 ∅ 0 ∗ cred (tallyAt (rcvC c 2) () NC) ∗ chAny (F := F) c (mC 1) 2)
      ∗ ((OW (F := F) c 2 ∗ atPos (ER (F := F)) (rcvC c 2) (0 + 1) ∅ 0 ∗ chIs c (mC 2) 2 (out I (peer c) 2) ∗ chIs c (mC 1) 2 (out I c 6)) -∗ Kt ⟨⟩))
      ⊢ WP c (onArgs (k0_part12 (F := F)) a b d (k0_pay26 (w1At (I c) 2)) (k0_pay27 (w2At (I c) 2))) Kt := by
  rw [k0_part12_eq_skeleton]
  unfold k0_part12_skel
  simp only [Prog.lift, Prog.bind_op, Prog.bind_ret, Prog.pure_eq_ret]
  iintro ⟨⟨#Hc, HO, Hq, Hd, Hh⟩, HK⟩
  iapply (step_received I K c 2 2 (by decide)) $$ [HO Hq Hd]
  · isplitr; · iexact Hc
    isplitl [HO]; · iexact HO
    isplitl [Hq]; · iexact Hq
    iexact Hd
  iintro ⟨HO, Hq, Hd⟩
  iapply (step_load c (mC 2) 2) $$ [Hd]
  · iexact Hd
  iintro Hd
  iapply (step_fill I c 6 (out_answer I c 2).symm) $$ [Hh]
  · iexact Hh
  iintro Hh
  iapply (step_ret c)
  iapply HK
  isplitl [HO]; · iexact HO
  isplitl [Hq]; · iexact Hq
  isplitl [Hd]; · iexact Hd
  iexact Hh

/-- The thirteenth part: those results sent back, the fourth expert's weights taken. -/
theorem part13 {Kt : _ → sProp 𝕄} :
    iprop((ctx I K c ∗ OW (F := F) c 2 ∗ chIs c (mC 1) 2 (out I c 6) ∗ tok (F := F) c 6 ∗ slot (F := F) c 6 ∗ pt c cc0_stg3_0 (own3 c (I c)) ∗ fly1 I c 3 ∗ fly2 I c 3)
      ∗ ((OW (F := F) c 1 ∗ flying (F := F) c 6 ∗ pt c cc0_stg3_0 (own3 c (I c)) ∗ got1 I c 3 ∗ got2 I c 3) -∗ Kt ⟨k0_pay30 (w1At (I c) 3), k0_pay31 (w2At (I c) 3), k0_pay32 (own3 c (I c)), k0_pay33 (mine c) rows (k0_pay2 (F := F) (I c).asg) (k0_pay3 (F := F) (I c).rnk) (k0_pay4 (I c).xb) (w1At (I c) 3) (w2At (I c) 3)⟩))
      ⊢ WP c (onArgs (k0_part13 (F := F)) c (mine c) rows (k0_pay2 (F := F) (I c).asg) (k0_pay3 (F := F) (I c).rnk) (k0_pay4 (I c).xb)) Kt := by
  rw [k0_part13_eq_skeleton]
  unfold k0_part13_skel
  simp only [Prog.lift, Prog.bind_op, Prog.bind_ret, Prog.pure_eq_ret]
  iintro ⟨⟨#Hc, HO, Hh, Ht, Hs, Ho, H1, H2⟩, HK⟩
  iapply (step_send I K c 6 (n := ⟨k0_dev8 c, k0_dev8_lt c⟩) (hn := dev8_eq c)) $$ [HO Ht Hs Hh]
  · isplitr; · iexact Hc
    isplitl [HO]; · iexact HO
    isplitl [Ht]; · iexact Ht
    isplitl [Hs]; · iexact Hs
    iexact Hh
  iintro ⟨HO, Hf⟩
  iapply (step_wwait1 I K c 3 1 (by omega)) $$ [HO H1]
  · isplitr; · iexact Hc
    isplitl [HO]; · iexact HO
    iexact H1
  iintro ⟨HO, H1⟩
  iapply (step_wwait2 I K c 3 1 (by omega)) $$ [HO H2]
  · isplitr; · iexact Hc
    isplitl [HO]; · iexact HO
    iexact H2
  iintro ⟨HO, H2⟩
  iapply (step_wgot1 I c 3 (by decide)) $$ H1
  iintro H1
  iapply (step_wgot2 I c 3 (by decide)) $$ H2
  iintro H2
  iapply (step_wload c 3 (by decide) (own3 c (I c))) $$ [Ho]
  · iexact Ho
  iintro Ho
  iapply (step_ret c)
  iapply HK
  isplitl [HO]; · iexact HO
  isplitl [Hf]; · iexact Hf
  isplitl [Ho]; · iexact Ho
  isplitl [H1]; · iexact H1
  iexact H2

/-- The fourteenth part: the device's own fourth expert, and the partner's tokens for it. -/
theorem part14 (a b d : BitVec 32) {Kt : _ → sProp 𝕄} :
    iprop((ctx I K c ∗ OW (F := F) c 1 ∗ pt c cc0_stg3_0 (own3 c (I c)) ∗ atPos (ER (F := F)) (sndC c 3) 0 ∅ 0 ∗ flying (F := F) c 3 ∗ atPos (ER (F := F)) (rcvC c 3) 0 ∅ 0 ∗ cred (tallyAt (rcvC c 3) () NC))
      ∗ ((OW (F := F) c 1 ∗ pt c cc0_stg3_0 (own4 c (I c)) ∗ atPos (ER (F := F)) (sndC c 3) (0 + 1) ∅ 0 ∗ chAny (F := F) c (mC 0) 3 ∗ atPos (ER (F := F)) (rcvC c 3) (0 + 1) ∅ 0 ∗ chIs c (mC 2) 3 (out I (peer c) 3)) -∗ Kt (k0_pay35 (k0_pay30 (w1At (I c) 3)) (k0_pay31 (w2At (I c) 3)) (out I (peer c) 3))))
      ⊢ WP c (onArgs (k0_part14 (F := F)) a b d (k0_pay30 (w1At (I c) 3)) (k0_pay31 (w2At (I c) 3)) (k0_pay32 (own3 c (I c))) (k0_pay33 (mine c) rows (k0_pay2 (F := F) (I c).asg) (k0_pay3 (F := F) (I c).rnk) (k0_pay4 (I c).xb) (w1At (I c) 3) (w2At (I c) 3))) Kt := by
  rw [k0_part14_eq_skeleton]
  unfold k0_part14_skel
  simp only [Prog.lift, Prog.bind_op, Prog.bind_ret, Prog.pure_eq_ret]
  iintro ⟨⟨#Hc, HO, Ho, Ha, Hf, Hq, Hd⟩, HK⟩
  iapply (step_wload c 3 (by decide) (own3 c (I c))) $$ [Ho]
  · iexact Ho
  iintro Ho
  iapply (step_wstore c 3 (by decide) (own4 c (I c)) (own3 c (I c))) $$ [Ho]
  · iexact Ho
  iintro Ho
  iapply (step_sent I K c 3 1 (by omega)) $$ [HO Ha Hf]
  · isplitr; · iexact Hc
    isplitl [HO]; · iexact HO
    isplitl [Ha]; · iexact Ha
    iexact Hf
  iintro ⟨HO, Ha, Hb⟩
  iapply (step_received I K c 3 1 (by decide)) $$ [HO Hq Hd]
  · isplitr; · iexact Hc
    isplitl [HO]; · iexact HO
    isplitl [Hq]; · iexact Hq
    iexact Hd
  iintro ⟨HO, Hq, Hd⟩
  iapply (step_load c (mC 2) 3) $$ [Hd]
  · iexact Hd
  iintro Hd
  iapply (step_ret c)
  iapply HK
  isplitl [HO]; · iexact HO
  isplitl [Ho]; · iexact Ho
  isplitl [Ha]; · iexact Ha
  isplitl [Hb]; · iexact Hb
  isplitl [Hq]; · iexact Hq
  iexact Hd

/-- The fifteenth part: the fourth expert's results sent back. -/
theorem part15 (a b d : BitVec 32) {Kt : _ → sProp 𝕄} :
    iprop((ctx I K c ∗ OW (F := F) c 1 ∗ chAny (F := F) c (mC 1) 3 ∗ tok (F := F) c 7 ∗ slot (F := F) c 7 ∗ atPos (ER (F := F)) (sndC c 4) 0 ∅ 0 ∗ flying (F := F) c 4)
      ∗ (∀ u w, (OW (F := F) c 0 ∗ flying (F := F) c 7 ∗ atPos (ER (F := F)) (sndC c 4) (0 + 1) ∅ 0 ∗ chAny (F := F) c (mC 1) 0) -∗ Kt ⟨u, w⟩))
      ⊢ WP c (onArgs (k0_part15 (F := F)) c a b d (k0_pay35 (k0_pay30 (w1At (I c) 3)) (k0_pay31 (w2At (I c) 3)) (out I (peer c) 3))) Kt := by
  rw [k0_part15_eq_skeleton]
  unfold k0_part15_skel
  simp only [Prog.lift, Prog.bind_op, Prog.bind_ret, Prog.pure_eq_ret]
  iintro ⟨⟨#Hc, HO, Hh, Ht, Hs, Ha, He⟩, HK⟩
  iapply (step_fill I c 7 (out_answer I c 3).symm) $$ [Hh]
  · iexact Hh
  iintro Hh
  iapply (step_send I K c 7 (n := ⟨k0_dev9 c, k0_dev9_lt c⟩) (hn := dev9_eq c)) $$ [HO Ht Hs Hh]
  · isplitr; · iexact Hc
    isplitl [HO]; · iexact HO
    isplitl [Ht]; · iexact Ht
    isplitl [Hs]; · iexact Hs
    iexact Hh
  iintro ⟨HO, Hf⟩
  iapply (step_sent I K c 4 0 (by omega)) $$ [HO Ha He]
  · isplitr; · iexact Hc
    isplitl [HO]; · iexact HO
    isplitl [Ha]; · iexact Ha
    iexact He
  iintro ⟨HO, Ha, Hb⟩
  iapply (step_ret c)
  iapply HK
  isplitl [HO]; · iexact HO
  isplitl [Hf]; · iexact Hf
  isplitl [Ha]; · iexact Ha
  iexact Hb

/-- The sixteenth part: the partner's first expert. -/
theorem part16 (a b d e : BitVec 32) {Kt : _ → sProp 𝕄} :
    iprop((ctx I K c ∗ OW (F := F) c 0 ∗ atPos (ER (F := F)) (rcvC c 4) 0 ∅ 0 ∗ cred (tallyAt (rcvC c 4) () NC) ∗ pt c cc0_stg3_0 (own4 c (I c)) ∗ atPos (ER (F := F)) (sndC c 5) 0 ∅ 0 ∗ flying (F := F) c 5)
      ∗ ((OW (F := F) c 0 ∗ atPos (ER (F := F)) (rcvC c 4) (0 + 1) ∅ 0 ∗ chIs c (mC 3) 0 (out I (peer c) 4) ∗ pt c cc0_stg3_0 (total1 c (I c) (fun e => out I (peer c) ⟨e.val + 4, by omega⟩)) ∗ atPos (ER (F := F)) (sndC c 5) (0 + 1) ∅ 0 ∗ chAny (F := F) c (mC 1) 1) -∗ Kt ⟨⟩))
      ⊢ WP c (onArgs (k0_part16 (F := F)) a b (other c) rows (k0_pay2 (F := F) (I c).asg) (k0_pay3 (F := F) (I c).rnk) d e) Kt := by
  rw [k0_part16_eq_skeleton]
  unfold k0_part16_skel
  simp only [Prog.lift, Prog.bind_op, Prog.bind_ret, Prog.pure_eq_ret]
  iintro ⟨⟨#Hc, HO, Hq, Hd, Ho, Ha, Hf⟩, HK⟩
  iapply (step_received I K c 4 0 (by decide)) $$ [HO Hq Hd]
  · isplitr; · iexact Hc
    isplitl [HO]; · iexact HO
    isplitl [Hq]; · iexact Hq
    iexact Hd
  iintro ⟨HO, Hq, Hd⟩
  iapply (step_wload c 3 (by decide) (own4 c (I c))) $$ [Ho]
  · iexact Ho
  iintro Ho
  iapply (step_load c (mC 3) 0) $$ [Hd]
  · iexact Hd
  iintro Hd
  iapply (step_wload c 3 (by decide) (own4 c (I c))) $$ [Ho]
  · iexact Ho
  iintro Ho
  iapply (step_wstore c 3 (by decide) (total1 c (I c) (fun e => out I (peer c) ⟨e.val + 4, by omega⟩)) (own4 c (I c))) $$ [Ho]
  · iexact Ho
  iintro Ho
  iapply (step_sent I K c 5 0 (by omega)) $$ [HO Ha Hf]
  · isplitr; · iexact Hc
    isplitl [HO]; · iexact HO
    isplitl [Ha]; · iexact Ha
    iexact Hf
  iintro ⟨HO, Ha, Hb⟩
  iapply (step_ret c)
  iapply HK
  isplitl [HO]; · iexact HO
  isplitl [Hq]; · iexact Hq
  isplitl [Hd]; · iexact Hd
  isplitl [Ho]; · iexact Ho
  isplitl [Ha]; · iexact Ha
  iexact Hb

/-- The seventeenth part: the partner's second expert. -/
theorem part17 (a b d : BitVec 32) {Kt : _ → sProp 𝕄} :
    iprop((ctx I K c ∗ OW (F := F) c 0 ∗ atPos (ER (F := F)) (rcvC c 5) 0 ∅ 0 ∗ cred (tallyAt (rcvC c 5) () NC) ∗ pt c cc0_stg3_0 (total1 c (I c) (fun e => out I (peer c) ⟨e.val + 4, by omega⟩)))
      ∗ ((OW (F := F) c 0 ∗ atPos (ER (F := F)) (rcvC c 5) (0 + 1) ∅ 0 ∗ chIs c (mC 3) 1 (out I (peer c) 5) ∗ pt c cc0_stg3_0 (total2 c (I c) (fun e => out I (peer c) ⟨e.val + 4, by omega⟩))) -∗ Kt ⟨⟩))
      ⊢ WP c (onArgs (k0_part17 (F := F)) a b d (other c) rows (k0_pay2 (F := F) (I c).asg) (k0_pay3 (F := F) (I c).rnk)) Kt := by
  rw [k0_part17_eq_skeleton]
  unfold k0_part17_skel
  simp only [Prog.lift, Prog.bind_op, Prog.bind_ret, Prog.pure_eq_ret]
  iintro ⟨⟨#Hc, HO, Hq, Hd, Ho⟩, HK⟩
  iapply (step_received I K c 5 0 (by decide)) $$ [HO Hq Hd]
  · isplitr; · iexact Hc
    isplitl [HO]; · iexact HO
    isplitl [Hq]; · iexact Hq
    iexact Hd
  iintro ⟨HO, Hq, Hd⟩
  iapply (step_wload c 3 (by decide) (total1 c (I c) (fun e => out I (peer c) ⟨e.val + 4, by omega⟩))) $$ [Ho]
  · iexact Ho
  iintro Ho
  iapply (step_load c (mC 3) 1) $$ [Hd]
  · iexact Hd
  iintro Hd
  iapply (step_wload c 3 (by decide) (total1 c (I c) (fun e => out I (peer c) ⟨e.val + 4, by omega⟩))) $$ [Ho]
  · iexact Ho
  iintro Ho
  iapply (step_wstore c 3 (by decide) (total2 c (I c) (fun e => out I (peer c) ⟨e.val + 4, by omega⟩)) (total1 c (I c) (fun e => out I (peer c) ⟨e.val + 4, by omega⟩))) $$ [Ho]
  · iexact Ho
  iintro Ho
  iapply (step_ret c)
  iapply HK
  isplitl [HO]; · iexact HO
  isplitl [Hq]; · iexact Hq
  isplitl [Hd]; · iexact Hd
  iexact Ho

/-- The eighteenth part: the partner's third expert. -/
theorem part18 (a b d : BitVec 32) {Kt : _ → sProp 𝕄} :
    iprop((ctx I K c ∗ OW (F := F) c 0 ∗ atPos (ER (F := F)) (sndC c 6) 0 ∅ 0 ∗ flying (F := F) c 6 ∗ atPos (ER (F := F)) (rcvC c 6) 0 ∅ 0 ∗ cred (tallyAt (rcvC c 6) () NC) ∗ pt c cc0_stg3_0 (total2 c (I c) (fun e => out I (peer c) ⟨e.val + 4, by omega⟩)))
      ∗ ((OW (F := F) c 0 ∗ atPos (ER (F := F)) (sndC c 6) (0 + 1) ∅ 0 ∗ chAny (F := F) c (mC 1) 2 ∗ atPos (ER (F := F)) (rcvC c 6) (0 + 1) ∅ 0 ∗ chIs c (mC 3) 2 (out I (peer c) 6) ∗ pt c cc0_stg3_0 (total2 c (I c) (fun e => out I (peer c) ⟨e.val + 4, by omega⟩))) -∗ Kt (total3 c (I c) (fun e => out I (peer c) ⟨e.val + 4, by omega⟩))))
      ⊢ WP c (onArgs (k0_part18 (F := F)) a b d (other c) rows (k0_pay2 (F := F) (I c).asg) (k0_pay3 (F := F) (I c).rnk)) Kt := by
  rw [k0_part18_eq_skeleton]
  unfold k0_part18_skel
  simp only [Prog.lift, Prog.bind_op, Prog.bind_ret, Prog.pure_eq_ret]
  iintro ⟨⟨#Hc, HO, Ha, Hf, Hq, Hd, Ho⟩, HK⟩
  iapply (step_sent I K c 6 0 (by omega)) $$ [HO Ha Hf]
  · isplitr; · iexact Hc
    isplitl [HO]; · iexact HO
    isplitl [Ha]; · iexact Ha
    iexact Hf
  iintro ⟨HO, Ha, Hb⟩
  iapply (step_received I K c 6 0 (by decide)) $$ [HO Hq Hd]
  · isplitr; · iexact Hc
    isplitl [HO]; · iexact HO
    isplitl [Hq]; · iexact Hq
    iexact Hd
  iintro ⟨HO, Hq, Hd⟩
  iapply (step_wload c 3 (by decide) (total2 c (I c) (fun e => out I (peer c) ⟨e.val + 4, by omega⟩))) $$ [Ho]
  · iexact Ho
  iintro Ho
  iapply (step_load c (mC 3) 2) $$ [Hd]
  · iexact Hd
  iintro Hd
  rw [show k0_pay39 (other c) rows (k0_pay2 (F := F) (I c).asg) (k0_pay3 (F := F) (I c).rnk) (total2 c (I c) (fun e => out I (peer c) ⟨e.val + 4, by omega⟩)) (out I (peer c) 6) = (total3 c (I c) (fun e => out I (peer c) ⟨e.val + 4, by omega⟩)) from rfl]
  iapply (step_ret c)
  iapply HK
  isplitl [HO]; · iexact HO
  isplitl [Ha]; · iexact Ha
  isplitl [Hb]; · iexact Hb
  isplitl [Hq]; · iexact Hq
  isplitl [Hd]; · iexact Hd
  iexact Ho

/-- The nineteenth part: the partner's fourth expert come back. -/
theorem part19 (a b d : BitVec 32) {Kt : _ → sProp 𝕄} :
    iprop((ctx I K c ∗ OW (F := F) c 0 ∗ pt c cc0_stg3_0 (total2 c (I c) (fun e => out I (peer c) ⟨e.val + 4, by omega⟩)) ∗ atPos (ER (F := F)) (sndC c 7) 0 ∅ 0 ∗ flying (F := F) c 7 ∗ atPos (ER (F := F)) (rcvC c 7) 0 ∅ 0 ∗ cred (tallyAt (rcvC c 7) () NC))
      ∗ ((OW (F := F) c 0 ∗ pt c cc0_stg3_0 (total3 c (I c) (fun e => out I (peer c) ⟨e.val + 4, by omega⟩)) ∗ atPos (ER (F := F)) (sndC c 7) (0 + 1) ∅ 0 ∗ chAny (F := F) c (mC 1) 3 ∗ atPos (ER (F := F)) (rcvC c 7) (0 + 1) ∅ 0 ∗ chIs c (mC 3) 3 (out I (peer c) 7)) -∗ Kt ⟨k0_pay40 (total3 c (I c) (fun e => out I (peer c) ⟨e.val + 4, by omega⟩)), k0_pay41 (other c) rows (k0_pay2 (F := F) (I c).asg) (k0_pay3 (F := F) (I c).rnk)⟩))
      ⊢ WP c (onArgs (k0_part19 (F := F)) a b d (other c) rows (k0_pay2 (F := F) (I c).asg) (k0_pay3 (F := F) (I c).rnk) (total3 c (I c) (fun e => out I (peer c) ⟨e.val + 4, by omega⟩))) Kt := by
  rw [k0_part19_eq_skeleton]
  unfold k0_part19_skel
  simp only [Prog.lift, Prog.bind_op, Prog.bind_ret, Prog.pure_eq_ret]
  iintro ⟨⟨#Hc, HO, Ho, Ha, Hf, Hq, Hd⟩, HK⟩
  iapply (step_wload c 3 (by decide) (total2 c (I c) (fun e => out I (peer c) ⟨e.val + 4, by omega⟩))) $$ [Ho]
  · iexact Ho
  iintro Ho
  iapply (step_wstore c 3 (by decide) (total3 c (I c) (fun e => out I (peer c) ⟨e.val + 4, by omega⟩)) (total2 c (I c) (fun e => out I (peer c) ⟨e.val + 4, by omega⟩))) $$ [Ho]
  · iexact Ho
  iintro Ho
  iapply (step_sent I K c 7 0 (by omega)) $$ [HO Ha Hf]
  · isplitr; · iexact Hc
    isplitl [HO]; · iexact HO
    isplitl [Ha]; · iexact Ha
    iexact Hf
  iintro ⟨HO, Ha, Hb⟩
  iapply (step_received I K c 7 0 (by decide)) $$ [HO Hq Hd]
  · isplitr; · iexact Hc
    isplitl [HO]; · iexact HO
    isplitl [Hq]; · iexact Hq
    iexact Hd
  iintro ⟨HO, Hq, Hd⟩
  iapply (step_wload c 3 (by decide) (total3 c (I c) (fun e => out I (peer c) ⟨e.val + 4, by omega⟩))) $$ [Ho]
  · iexact Ho
  iintro Ho
  iapply (step_ret c)
  iapply HK
  isplitl [HO]; · iexact HO
  isplitl [Ho]; · iexact Ho
  isplitl [Ha]; · iexact Ha
  isplitl [Hb]; · iexact Hb
  isplitl [Hq]; · iexact Hq
  iexact Hd

end Cert.KernelIdeal.Talk

end
-- ==== Proof.Body.lean ====
/-
  The kernel's body on a symbolic device, from its 19 parts.
-/
module

public import proofs.«01_k».proof.Proof.Parts

@[expose] public section

set_option maxRecDepth 16384

noncomputable section

namespace Cert.KernelIdeal.Talk

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

attribute [local instance] Cert.KernelIdeal.Gen.facts

local notation "𝕄" => MT nD τ sig Unit (Elt F) ℕ UU ℕ

variable (I : Dev nD → Inp F) (K : GSem nD τ sig → ℕ) (c : Dev nD)

/-- A family over the eight copies, spelt out. -/
theorem eight (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

theorem eight_out (Φ : Fin 8 → sProp 𝕄) : bigSep Finset.univ Φ ⊢ iprop(Φ 0 ∗ Φ 1 ∗ Φ 2 ∗ Φ 3 ∗ Φ 4 ∗ Φ 5 ∗ Φ 6 ∗ Φ 7) := by
  rw [eight]

/-- One part, then the rest. -/
theorem step_part {α β : Type} {p : Prog (TpuEff nD τ sig (Elt F) Λ₀ .tc) α} {k : α → Prog (TpuEff nD τ sig (Elt F) Λ₀ .tc) β} {Q : β → sProp 𝕄} :
    WP c p (fun a => WP c (k a) Q) ⊢ WP c (p >>= k) Q := by
  rw [show WP c (p >>= k) Q = WP c p (fun a => WP c (k a) Q) from wp_bind ..]

/-- What device c enters the body with, the barrier's signal still to send. -/
def enter : sProp 𝕄 :=
  iprop(OW (F := F) c 9 ∗ (dutyTok (ER (F := F)) (barC (peer c)) 0 () ∗ reached (ER (F := F)) (barC (peer c)) 0 ∗ barPay (F := F) (peer c))
    ∗ atPos (ER (F := F)) (barC c) 0 ∅ 0 ∗ cred (tallyAt (barC c) () 1) ∗ idle1 I c 0 ∗ idle2 I c 0
    ∗ bigSep Finset.univ (fun j => tok (F := F) c j) ∗ bigSep Finset.univ (fun j => pos (F := F) c j)
    ∗ bigSep Finset.univ (fun j : Fin 8 => chAny (F := F) c (mC (srcI j)) (ecI j))
    ∗ pt c cc0_stg0_0 (I c).xb ∗ pt c cc0_stg1_0 (I c).asg ∗ pt c cc0_stg2_0 (I c).rnk ∗ ∃ f, pt (F := F) c cc0_stg3_0 f)

/-- What it leaves the body with, the result in its staging buffer. -/
def leave : sProp 𝕄 :=
  iprop(OW (F := F) c 0 ∗ atPos (ER (F := F)) (barC c) (0 + 1) ∅ 0 ∗ got1 I c 3 ∗ got2 I c 3
    ∗ bigSep Finset.univ (fun j => done (F := F) c j)
    ∗ bigSep Finset.univ (fun j : Fin 8 => chAny (F := F) c (mC (srcI j)) (ecI j))
    ∗ bigSep Finset.univ (fun j : Fin 8 => chAny (F := F) c (mC (dstI j)) (ecI j))
    ∗ pt c cc0_stg0_0 (I c).xb ∗ pt c cc0_stg1_0 (I c).asg ∗ pt c cc0_stg2_0 (I c).rnk ∗ pt c cc0_stg3_0 (result I c))

/-- The body: from what a device enters with it gets, whatever its partner does meanwhile, to what it leaves with. -/
theorem body_run {Kt : PUnit → sProp 𝕄} :
    iprop((ctx I K c ∗ enter I c) ∗ (leave I c -∗ Kt ⟨⟩)) ⊢ WP c (onArgs (cc0__moe_body (F := F))) Kt := by
  rw [cc0__moe_body_eq_skeleton]
  unfold cc0__moe_body_skel enter leave
  rw [eight, eight, eight, eight, eight]
  unfold pos done
  iintro ⟨⟨#Hc, HO, Hbar, Hab, Hcb, H1, H2, ⟨Ht0, Ht1, Ht2, Ht3, Ht4, Ht5, Ht6, Ht7⟩, ⟨⟨Ha0, Hq0, Hd0⟩, ⟨Ha1, Hq1, Hd1⟩, ⟨Ha2, Hq2, Hd2⟩, ⟨Ha3, Hq3, Hd3⟩, ⟨Ha4, Hq4, Hd4⟩, ⟨Ha5, Hq5, Hd5⟩, ⟨Ha6, Hq6, Hd6⟩, ⟨Ha7, Hq7, Hd7⟩⟩, ⟨Hh0, Hh1, Hh2, Hh3, Hh4, Hh5, Hh6, Hh7⟩, Hx, Hg, Hr, Ho⟩, HK⟩
  iapply (step_part c)
  iapply (part1 I K c )
  isplitl [HO Hbar Hab Hcb H1 H2 Hg Hr]
  · isplitr; · iexact Hc
    isplitl [HO]; · iexact HO
    isplitl [Hbar]; · iexact Hbar
    isplitl [Hab]; · iexact Hab
    isplitl [Hcb]; · iexact Hcb
    isplitl [H1]; · iexact H1
    isplitl [H2]; · iexact H2
    isplitl [Hg]; · iexact Hg
    iexact Hr
  iintro %a %b %d ⟨HO, Hab, Hs, H1, H2, Hg, Hr⟩
  dsimp only
  icases (eight_out _) $$ Hs with ⟨Hs0, Hs1, Hs2, Hs3, Hs4, Hs5, Hs6, Hs7⟩
  iapply (step_part c)
  iapply (part2 I K c _ _ _)
  isplitl [HO Hx Hh0 Ht0 Hs0]
  · isplitr; · iexact Hc
    isplitl [HO]; · iexact HO
    isplitl [Hx]; · iexact Hx
    isplitl [Hh0]; · iexact Hh0
    isplitl [Ht0]; · iexact Ht0
    iexact Hs0
  iintro ⟨HO, Hx, Hf0⟩
  dsimp only
  iapply (step_part c)
  iapply (part3 I K c _ _ _)
  isplitl [HO Ht1 Hs1 Hh1 Hh2]
  · isplitr; · iexact Hc
    isplitl [HO]; · iexact HO
    isplitl [Ht1]; · iexact Ht1
    isplitl [Hs1]; · iexact Hs1
    isplitl [Hh1]; · iexact Hh1
    iexact Hh2
  iintro ⟨HO, Hf1, Hh2⟩
  iapply (step_part c)
  iapply (part4 I K c _ _ _)
  isplitl [HO Ht2 Hs2 Hh2 Hh3]
  · isplitr; · iexact Hc
    isplitl [HO]; · iexact HO
    isplitl [Ht2]; · iexact Ht2
    isplitl [Hs2]; · iexact Hs2
    isplitl [Hh2]; · iexact Hh2
    iexact Hh3
  iintro %u %w ⟨HO, Hf2, Hh3⟩
  dsimp only
  iapply (step_part c)
  iapply (part5 I K c _ _ _)
  isplitl [HO Ht3 Hs3 Hh3 Ho H1 H2]
  · isplitr; · iexact Hc
    isplitl [HO]; · iexact HO
    isplitl [Ht3]; · iexact Ht3
    isplitl [Hs3]; · iexact Hs3
    isplitl [Hh3]; · iexact Hh3
    isplitl [Ho]; · iexact Ho
    isplitl [H1]; · iexact H1
    iexact H2
  iintro ⟨HO, Hf3, Ho, H1, H2⟩
  dsimp only
  iapply (step_part c)
  iapply (part6 I K c _ _ _)
  isplitl [HO Ho Ha0 Hf0]
  · isplitr; · iexact Hc
    isplitl [HO]; · iexact HO
    isplitl [Ho]; · iexact Ho
    isplitl [Ha0]; · iexact Ha0
    iexact Hf0
  iintro ⟨HO, Ho, Ha0, Hh0⟩
  iapply (step_part c)
  iapply (part7 I K c _ _ _)
  isplitl [HO Hq0 Hd0 Hh4 Ht4 Hs4]
  · isplitr; · iexact Hc
    isplitl [HO]; · iexact HO
    isplitl [Hq0]; · iexact Hq0
    isplitl [Hd0]; · iexact Hd0
    isplitl [Hh4]; · iexact Hh4
    isplitl [Ht4]; · iexact Ht4
    iexact Hs4
  iintro ⟨HO, Hq0, Hd0, Hf4⟩
  iapply (step_part c)
  iapply (part8 I K c )
  isplitl [HO Ho H1 H2]
  · isplitr; · iexact Hc
    isplitl [HO]; · iexact HO
    isplitl [Ho]; · iexact Ho
    isplitl [H1]; · iexact H1
    iexact H2
  iintro ⟨HO, Ho, H1, H2⟩
  dsimp only
  iapply (step_part c)
  iapply (part9 I K c _ _ _)
  isplitl [HO Ho Ha1 Hf1 Hq1 Hd1]
  · isplitr; · iexact Hc
    isplitl [HO]; · iexact HO
    isplitl [Ho]; · iexact Ho
    isplitl [Ha1]; · iexact Ha1
    isplitl [Hf1]; · iexact Hf1
    isplitl [Hq1]; · iexact Hq1
    iexact Hd1
  iintro ⟨HO, Ho, Ha1, Hh1, Hq1, Hd1⟩
  iapply (step_part c)
  iapply (part10 I K c _ _ _)
  isplitl [HO Hh5 Ht5 Hs5 H1 H2]
  · isplitr; · iexact Hc
    isplitl [HO]; · iexact HO
    isplitl [Hh5]; · iexact Hh5
    isplitl [Ht5]; · iexact Ht5
    isplitl [Hs5]; · iexact Hs5
    isplitl [H1]; · iexact H1
    iexact H2
  iintro ⟨HO, Hf5, H1, H2⟩
  dsimp only
  ihave H1 := got1_idle I c 2 $$ H1
  ihave H2 := got2_idle I c 2 $$ H2
  iapply (step_part c)
  iapply (part11 I K c )
  isplitl [HO Ho Ha2 Hf2 H1 H2]
  · isplitr; · iexact Hc
    isplitl [HO]; · iexact HO
    isplitl [Ho]; · iexact Ho
    isplitl [Ha2]; · iexact Ha2
    isplitl [Hf2]; · iexact Hf2
    isplitl [H1]; · iexact H1
    iexact H2
  iintro ⟨HO, Ho, Ha2, Hh2, H1, H2⟩
  iapply (step_part c)
  iapply (part12 I K c _ _ _)
  isplitl [HO Hq2 Hd2 Hh6]
  · isplitr; · iexact Hc
    isplitl [HO]; · iexact HO
    isplitl [Hq2]; · iexact Hq2
    isplitl [Hd2]; · iexact Hd2
    iexact Hh6
  iintro ⟨HO, Hq2, Hd2, Hh6⟩
  iapply (step_part c)
  iapply (part13 I K c )
  isplitl [HO Hh6 Ht6 Hs6 Ho H1 H2]
  · isplitr; · iexact Hc
    isplitl [HO]; · iexact HO
    isplitl [Hh6]; · iexact Hh6
    isplitl [Ht6]; · iexact Ht6
    isplitl [Hs6]; · iexact Hs6
    isplitl [Ho]; · iexact Ho
    isplitl [H1]; · iexact H1
    iexact H2
  iintro ⟨HO, Hf6, Ho, H1, H2⟩
  dsimp only
  iapply (step_part c)
  iapply (part14 I K c _ _ _)
  isplitl [HO Ho Ha3 Hf3 Hq3 Hd3]
  · isplitr; · iexact Hc
    isplitl [HO]; · iexact HO
    isplitl [Ho]; · iexact Ho
    isplitl [Ha3]; · iexact Ha3
    isplitl [Hf3]; · iexact Hf3
    isplitl [Hq3]; · iexact Hq3
    iexact Hd3
  iintro ⟨HO, Ho, Ha3, Hh3, Hq3, Hd3⟩
  iapply (step_part c)
  iapply (part15 I K c _ _ _)
  isplitl [HO Hh7 Ht7 Hs7 Ha4 Hf4]
  · isplitr; · iexact Hc
    isplitl [HO]; · iexact HO
    isplitl [Hh7]; · iexact Hh7
    isplitl [Ht7]; · iexact Ht7
    isplitl [Hs7]; · iexact Hs7
    isplitl [Ha4]; · iexact Ha4
    iexact Hf4
  iintro %p %q ⟨HO, Hf7, Ha4, Hh4⟩
  dsimp only
  iapply (step_part c)
  iapply (part16 I K c _ _ _ _)
  isplitl [HO Hq4 Hd4 Ho Ha5 Hf5]
  · isplitr; · iexact Hc
    isplitl [HO]; · iexact HO
    isplitl [Hq4]; · iexact Hq4
    isplitl [Hd4]; · iexact Hd4
    isplitl [Ho]; · iexact Ho
    isplitl [Ha5]; · iexact Ha5
    iexact Hf5
  iintro ⟨HO, Hq4, Hd4, Ho, Ha5, Hh5⟩
  iapply (step_part c)
  iapply (part17 I K c _ _ _)
  isplitl [HO Hq5 Hd5 Ho]
  · isplitr; · iexact Hc
    isplitl [HO]; · iexact HO
    isplitl [Hq5]; · iexact Hq5
    isplitl [Hd5]; · iexact Hd5
    iexact Ho
  iintro ⟨HO, Hq5, Hd5, Ho⟩
  iapply (step_part c)
  iapply (part18 I K c _ _ _)
  isplitl [HO Ha6 Hf6 Hq6 Hd6 Ho]
  · isplitr; · iexact Hc
    isplitl [HO]; · iexact HO
    isplitl [Ha6]; · iexact Ha6
    isplitl [Hf6]; · iexact Hf6
    isplitl [Hq6]; · iexact Hq6
    isplitl [Hd6]; · iexact Hd6
    iexact Ho
  iintro ⟨HO, Ha6, Hh6, Hq6, Hd6, Ho⟩
  iapply (step_part c)
  iapply (part19 I K c _ _ _)
  isplitl [HO Ho Ha7 Hf7 Hq7 Hd7]
  · isplitr; · iexact Hc
    isplitl [HO]; · iexact HO
    isplitl [Ho]; · iexact Ho
    isplitl [Ha7]; · iexact Ha7
    isplitl [Hf7]; · iexact Hf7
    isplitl [Hq7]; · iexact Hq7
    iexact Hd7
  iintro ⟨HO, Ho, Ha7, Hh7, Hq7, Hd7⟩
  dsimp only
  simp only [Prog.lift, Prog.bind_op, Prog.bind_ret, Prog.pure_eq_ret]
  iapply (step_load c (mC 3) 3) $$ [Hd7]
  · iexact Hd7
  iintro Hd7
  iapply (step_wload c 3 (by decide) (total3 c (I c) (fun e => out I (peer c) ⟨e.val + 4, by omega⟩))) $$ [Ho]
  · iexact Ho
  iintro Ho
  iapply (step_wstore c 3 (by decide) (result I c) (total3 c (I c) (fun e => out I (peer c) ⟨e.val + 4, by omega⟩))) $$ [Ho]
  · iexact Ho
  iintro Ho
  iapply (step_ret c)
  iapply HK
  isplitl [HO]; · iexact HO
  isplitl [Hab]; · iexact Hab
  isplitl [H1]; · iexact H1
  isplitl [H2]; · iexact H2
  isplitl [Ha0 Hq0 Ha1 Hq1 Ha2 Hq2 Ha3 Hq3 Ha4 Hq4 Ha5 Hq5 Ha6 Hq6 Ha7 Hq7]
  · isplitl [Ha0 Hq0]
    · isplitl [Ha0]; · iexact Ha0
      iexact Hq0
    isplitl [Ha1 Hq1]
    · isplitl [Ha1]; · iexact Ha1
      iexact Hq1
    isplitl [Ha2 Hq2]
    · isplitl [Ha2]; · iexact Ha2
      iexact Hq2
    isplitl [Ha3 Hq3]
    · isplitl [Ha3]; · iexact Ha3
      iexact Hq3
    isplitl [Ha4 Hq4]
    · isplitl [Ha4]; · iexact Ha4
      iexact Hq4
    isplitl [Ha5 Hq5]
    · isplitl [Ha5]; · iexact Ha5
      iexact Hq5
    isplitl [Ha6 Hq6]
    · isplitl [Ha6]; · iexact Ha6
      iexact Hq6
    isplitl [Ha7]; · iexact Ha7
    iexact Hq7
  isplitl [Hh0 Hh1 Hh2 Hh3 Hh4 Hh5 Hh6 Hh7]
  · isplitl [Hh0]; · iexact Hh0
    isplitl [Hh1]; · iexact Hh1
    isplitl [Hh2]; · iexact Hh2
    isplitl [Hh3]; · iexact Hh3
    isplitl [Hh4]; · iexact Hh4
    isplitl [Hh5]; · iexact Hh5
    isplitl [Hh6]; · iexact Hh6
    iexact Hh7
  isplitl [Hd0 Hd1 Hd2 Hd3 Hd4 Hd5 Hd6 Hd7]
  · isplitl [Hd0]; · iapply (chIs_any c _ _ _); iexact Hd0
    isplitl [Hd1]; · iapply (chIs_any c _ _ _); iexact Hd1
    isplitl [Hd2]; · iapply (chIs_any c _ _ _); iexact Hd2
    isplitl [Hd3]; · iapply (chIs_any c _ _ _); iexact Hd3
    isplitl [Hd4]; · iapply (chIs_any c _ _ _); iexact Hd4
    isplitl [Hd5]; · iapply (chIs_any c _ _ _); iexact Hd5
    isplitl [Hd6]; · iapply (chIs_any c _ _ _); iexact Hd6
    iapply (chIs_any c _ _ _); iexact Hd7
  isplitl [Hx]; · iexact Hx
  isplitl [Hg]; · iexact Hg
  isplitl [Hr]; · iexact Hr
  iexact Ho

end Cert.KernelIdeal.Talk

end
-- ==== Proof.Chunks.lean ====
/-
  A scratch buffer is held whole or as its four chunks.
-/
module

public import proofs.«01_k».proof.Proof.Body
public import Idealize.ShloMosaic.Lib.Ring

@[expose] public section

set_option maxRecDepth 16384

noncomputable section

namespace Cert.KernelIdeal.Talk

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

attribute [local instance] Cert.KernelIdeal.Gen.facts

local notation "𝕄" => MT nD τ sig Unit (Elt F) ℕ UU ℕ

section Chunks
variable (c : Dev nD) (M : Memref sig .tc .vmem S4x320x1024 .bf16)

/-- A chunk's elements, as elements of the buffer. -/
def chSet (e : Fin 4) : Finset M.view.ty.Idx := (ch M e).view.set

/-- The chunks of one buffer do not overlap. -/
theorem ch_disjoint (e e' : Fin 4) (h : e ≠ e') : Disjoint (chSet M e) (chSet M e') := by
  unfold chSet
  rw [ch_set, ch_set]
  show Disjoint (M.view.slice (rC e)).set (M.view.slice (rC e')).set
  rw [View.set_slice, View.set_slice, Finset.disjoint_map]
  exact Ring.lead_disjoint (s := S4x320x1024) (NB := 4) 0 1 (fun e => ![e.val, 0, 0]) S1x320x1024.size inbC
    (by decide) rfl e e' h

/-- They cover a whole buffer. -/
theorem ch_cover (hM : M.view.set = Finset.univ) :
    Finset.univ.biUnion (chSet M) = Finset.univ := by
  unfold chSet
  have h := Ring.lead_cover (s := S4x320x1024) (NB := 4) 0 1 (fun e => ![e.val, 0, 0]) S1x320x1024.size inbC
    (by decide) (by decide) rfl (by decide) rfl
  ext i
  simp only [Finset.mem_univ, iff_true, Finset.mem_biUnion, true_and]
  have hi : i ∈ M.view.set := by rw [hM]; exact Finset.mem_univ i
  obtain ⟨y, -, hy⟩ := Finset.mem_map.mp hi
  have hy' : y ∈ Finset.univ.biUnion fun e => (rC e).set := by rw [h]; exact Finset.mem_univ y
  obtain ⟨e, -, he⟩ := Finset.mem_biUnion.mp hy'
  refine ⟨e, ?_⟩
  rw [ch_set]
  show i ∈ (M.view.slice (rC e)).set
  rw [View.set_slice]
  exact Finset.mem_map.mpr ⟨y, he, hy⟩

/-- A whole buffer splits into its chunks. -/
theorem chunks_split (hM : M.view.set = Finset.univ) :
    (iprop(∃ f, M.view.loc (c : Thread nD τ) ↦{fullShare} f) : sProp 𝕄) ⊢ bigSep Finset.univ fun e => chAny (F := F) c M e := by
  iintro ⟨%f, H⟩
  iapply (show (M.view.loc (c : Thread nD τ) ↦{fullShare} f : sProp 𝕄) ⊢ bigSep Finset.univ fun e => chAny (F := F) c M e from by
    rw [Ring.pointsTo_blocks (ℓ := M.view.loc (c : Thread nD τ)) (chSet M) (ch_disjoint M) (ch_cover M hM) f]
    exact bigSep_mono fun e _ => show (M.view.loc (c : Thread nD τ) ↦[chSet M e]{fullShare} f : sProp 𝕄) ⊢ chAny (F := F) c M e from by
      unfold chAny chAt chSet; iintro H; iexists f; iexact H)
  iexact H

/-- Four chunks make the whole buffer. -/
theorem chunks_join (hM : M.view.set = Finset.univ) (f₀ : Buf (Elt F) (M.view.loc (c : Thread nD τ))) :
    (bigSep Finset.univ fun e => chAny (F := F) c M e) ⊢ (iprop(∃ f, M.view.loc (c : Thread nD τ) ↦{fullShare} f) : sProp 𝕄) :=
  Ring.pointsTo_blocks_join_exists (ℓ := M.view.loc (c : Thread nD τ)) (chSet M) (ch_disjoint M) (ch_cover M hM) f₀

end Chunks

section Eight
variable (c : Dev nD)

/-- A family over the four chunks, spelt out. -/
theorem four (Φ : Fin 4 → sProp 𝕄) : bigSep Finset.univ Φ = iprop(Φ 0 ∗ Φ 1 ∗ Φ 2 ∗ Φ 3) :=
  bigSep_univ_eq_bigSepL [0, 1, 2, 3] (by decide) (by decide) Φ

/-- The chunked buffers are whole ones. -/
theorem mC_whole (k : Fin 4) : (mC k).view.set = Finset.univ :=
  match k with
  | 0 => View.set_whole _
  | 1 => View.set_whole _
  | 2 => View.set_whole _
  | 3 => View.set_whole _

/-- The eight chunks the copies read are the two source buffers. -/
theorem srcs_of (a : Fin 4) (b : Fin 4) (M : Fin 8 → Fin 4) (h : M = ![a, a, a, a, b, b, b, b]) :
    iprop((∃ f, (mC a).view.loc (c : Thread nD τ) ↦{fullShare} f) ∗ ∃ f, (mC b).view.loc (c : Thread nD τ) ↦{fullShare} f)
      ⊢ (bigSep Finset.univ fun j => chAny (F := F) c (mC (M j)) (ecI j) : sProp 𝕄) := by
  subst h
  rw [eight]
  refine (BIClass.sep_mono ((chunks_split c (mC a) (mC_whole a)).trans (Entails.of_eq (four _)))
    ((chunks_split c (mC b) (mC_whole b)).trans (Entails.of_eq (four _)))).trans ?_
  iintro ⟨⟨H0, H1, H2, H3⟩, H4, H5, H6, H7⟩
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- And back. -/
theorem srcs_to (a : Fin 4) (b : Fin 4) (M : Fin 8 → Fin 4) (h : M = ![a, a, a, a, b, b, b, b])
    (fa : Buf (Elt F) ((mC a).view.loc (c : Thread nD τ))) (fb : Buf (Elt F) ((mC b).view.loc (c : Thread nD τ))) :
    (bigSep Finset.univ fun j => chAny (F := F) c (mC (M j)) (ecI j) : sProp 𝕄)
      ⊢ iprop((∃ f, (mC a).view.loc (c : Thread nD τ) ↦{fullShare} f) ∗ ∃ f, (mC b).view.loc (c : Thread nD τ) ↦{fullShare} f) := by
  subst h
  rw [eight]
  refine BIBase.Entails.trans ?_ (BIClass.sep_mono ((Entails.of_eq (four _).symm).trans (chunks_join c (mC a) (mC_whole a) fa))
    ((Entails.of_eq (four _).symm).trans (chunks_join c (mC b) (mC_whole b) fb)))
  iintro ⟨H0, H1, H2, H3, H4, H5, H6, H7⟩
  isplitl [H0 H1 H2 H3]
  · isplitl [H0]; · iexact H0
    isplitl [H1]; · iexact H1
    isplitl [H2]; · iexact H2
    iexact H3
  isplitl [H4]; · iexact H4
  isplitl [H5]; · iexact H5
  isplitl [H6]; · iexact H6
  iexact H7

end Eight

end Cert.KernelIdeal.Talk

end
-- ==== Proof.Cells.lean ====
/-
  A device's cells: opened at the region's entry, closed after its body.
-/
module

public import proofs.«01_k».proof.Proof.Chunks

@[expose] public section

set_option maxRecDepth 16384

noncomputable section

namespace Cert.KernelIdeal.Talk

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

attribute [local instance] Cert.KernelIdeal.Gen.facts

local notation "𝕄" => MT nD τ sig Unit (Elt F) ℕ UU ℕ

variable (I : Dev nD → Inp F) (K : GSem nD τ sig → ℕ) (c : Dev nD)

/-- The semaphores the kernel names itself: eight the copies leave on, eight they arrive on, two of the weight copies. -/
abbrev Own := (Fin 8 ⊕ Fin 8) ⊕ Fin 2
def osem : Own → SemLoc sig
  | .inl (.inl j) => .dma (sndS j)
  | .inl (.inr j) => .dma (rcvS j)
  | .inr i => .dma (wS i)

/-- A family over two, spelt out. -/
theorem two (Φ : Fin 2 → sProp 𝕄) : bigSep Finset.univ Φ = iprop(Φ 0 ∗ Φ 1) := BI.bigSep_fin_two Φ

/-- A family over a device's own cells, by kind. -/
theorem own_split (Φ : GSem nD τ sig → sProp 𝕄) :
    (bigSep Finset.univ fun k : Own => Φ ((c : Thread nD τ), osem k))
      = iprop(((bigSep Finset.univ fun j => Φ (sndC c j)) ∗ bigSep Finset.univ fun j => Φ (rcvC c j)) ∗ bigSep Finset.univ fun i => Φ (wtC c i)) := by
  rw [BI.bigSep_univ_sum, BI.bigSep_univ_sum]
  rfl

/-- A cell's record. -/
abbrev inv (g : GSem nD τ sig) : sProp 𝕄 := cellInv ER (sched I) (K g) g

/-- The records a device needs. -/
def invs : sProp 𝕄 :=
  iprop(inv I K (barC c) ∗ inv I K (barC (peer c)) ∗ (bigSep Finset.univ fun k : Own => inv I K ((c : Thread nD τ), osem k))
    ∗ bigSep Finset.univ fun k : Own => inv I K ((peer c : Thread nD τ), osem k))
instance invs_persistent : BI.Persistent (invs I K c) := by unfold invs; infer_instance

theorem invs_own : invs I K c ⊢ bigSep Finset.univ fun k : Own => inv I K ((c : Thread nD τ), osem k) := by
  unfold invs; iintro ⟨-, -, H, -⟩; iexact H

theorem invs_ctx : iprop(invs I K c ∗ levAts L lv) ⊢ ctx I K c := by
  unfold invs ctx
  rw [own_split c (inv I K), own_split (peer c) (inv I K)]
  simp only [bigSep_sep']
  iintro ⟨⟨#Hb, #HbP, ⟨⟨#Hs, #Hr⟩, #Hw⟩, ⟨-, #HrP⟩, -⟩, #Hl⟩
  isplitr; · iexact Hb
  isplitr; · iexact HbP
  isplitr
  · isplitr; · iexact Hs
    isplitr; · iexact Hr
    iexact HrP
  isplitr; · iexact Hw
  iexact Hl

/-- The duties a device pays: the partner's barrier, its own departures, the partner's arrivals, its weight copies. -/
def toks : sProp 𝕄 :=
  iprop(dutyTok (ER (F := F)) (barC (peer c)) 0 () ∗ (bigSep Finset.univ fun j => dutyTok (ER (F := F)) (sndC c j) 0 ())
    ∗ (bigSep Finset.univ fun j => dutyTok (ER (F := F)) (rcvC (peer c) j) 0 ())
    ∗ bigSep Finset.univ fun i => bigSep Finset.univ fun r : Fin 4 => dutyTok (ER (F := F)) (wtC c i) r.val ())
/-- The credits it waits with that the partner pays for. -/
def creds : sProp 𝕄 :=
  iprop(cred (tallyAt (barC c) () 1) ∗ bigSep Finset.univ fun j => cred (tallyAt (rcvC c j) () NC))
/-- From launch: its barrier cell open, the others to be opened. -/
def ghost : sProp 𝕄 :=
  iprop(invs I K c ∗ atPos (ER (F := F)) (barC c) 0 ∅ 0 ∗ (bigSep Finset.univ fun k : Own => openTok (ER (F := F)) ((c : Thread nD τ), osem k))
    ∗ reached (ER (F := F)) (barC (peer c)) 0 ∗ toks (F := F) c)
/-- What a device carries to the region, -/
def Tk : sProp 𝕄 := iprop((∃ K, ghost I K c) ∗ creds (F := F) c)
/-- and once its cells are open. -/
def opened : sProp 𝕄 :=
  iprop(invs I K c ∗ atPos (ER (F := F)) (barC c) 0 ∅ 0
    ∗ (bigSep Finset.univ fun k : Own => iprop(atPos (ER (F := F)) ((c : Thread nD τ), osem k) 0 ∅ 0 ∗ reached (ER (F := F)) ((c : Thread nD τ), osem k) 0))
    ∗ reached (ER (F := F)) (barC (peer c)) 0 ∗ toks (F := F) c ∗ creds (F := F) c ∗ levAts L lv)
def Xk : sProp 𝕄 := iprop(∃ K, opened I K c)

/-- All of a device's dormant cells open. -/
theorem open_all :
    iprop((bigSep Finset.univ fun k : Own => inv I K ((c : Thread nD τ), osem k)) ∗ (bigSep Finset.univ fun k : Own => openTok (ER (F := F)) ((c : Thread nD τ), osem k))
      ∗ Pipeline.ownSems0 osem c)
    ⊢ (|={Set.univ}=> bigSep Finset.univ fun k : Own => iprop(atPos (ER (F := F)) ((c : Thread nD τ), osem k) 0 ∅ 0 ∗ reached (ER (F := F)) ((c : Thread nD τ), osem k) 0) : sProp 𝕄) := by
  unfold Pipeline.ownSems0
  rw [← bigSep_sep', ← bigSep_sep']
  exact (bigSep_mono fun k _ => Rounds.cell_open ER (sched I) (g := ((c : Thread nD τ), osem k)) (Set.mem_univ (K ((c : Thread nD τ), osem k)))).trans
    (bigSep_fupd _ _)

theorem hopen : iprop(Tk I c ∗ Pipeline.ownSems0 osem c ∗ levAts L lv) ⊢ (|={Set.univ}=> Xk I c : sProp 𝕄) := by
  unfold Tk Xk ghost
  iintro ⟨⟨⟨%K, #HI, Hb, Ho, HrP, Ht⟩, Hc⟩, Hs, #Hlev⟩
  imod (open_all I K c) $$ [Ho Hs] with H
  · isplitr; · iapply (invs_own I K c); iexact HI
    isplitl [Ho] <;> iassumption
  imodintro
  iexists K
  unfold opened
  isplitr; · iexact HI
  isplitl [Hb]; · iexact Hb
  isplitl [H]; · iexact H
  isplitl [HrP]; · iexact HrP
  isplitl [Ht]; · iexact Ht
  isplitl [Hc]; · iexact Hc
  iexact Hlev

/-- Every duty of a device's own cells paid and taken. -/
theorem no_more (k : Own) : ∀ r, (match k with | .inl _ => 0 + 1 | .inr _ => 3 + 1) ≤ r → (sched I).duties ((c : Thread nD τ), osem k) r = ∅ := by
  intro r hr
  match k with
  | .inl (.inl j) => exact duties_snd_later I c j r hr
  | .inl (.inr j) => exact duties_rcv_later I c j r hr
  | .inr i => exact duties_wt_later I c i r hr

/-- All of its cells close. -/
theorem close_all :
    iprop((bigSep Finset.univ fun k : Own => inv I K ((c : Thread nD τ), osem k))
      ∗ bigSep Finset.univ fun k : Own => atPos (ER (F := F)) ((c : Thread nD τ), osem k) (match k with | .inl _ => 0 + 1 | .inr _ => 3 + 1) ∅ 0)
    ⊢ (|={Set.univ}=> Pipeline.ownSems0 osem c : sProp 𝕄) := by
  unfold Pipeline.ownSems0
  rw [← bigSep_sep']
  exact (bigSep_mono fun k _ => Rounds.cell_close ER (sched I) (Set.mem_univ (K ((c : Thread nD τ), osem k))) id (no_more I c k)).trans (bigSep_fupd _ _)

theorem ends : iprop(((bigSep Finset.univ fun j => atPos (ER (F := F)) (sndC c j) (0 + 1) ∅ 0) ∗ bigSep Finset.univ fun j => atPos (ER (F := F)) (rcvC c j) (0 + 1) ∅ 0)
      ∗ atPos (ER (F := F)) (wtC c 0) (3 + 1) ∅ 0 ∗ atPos (ER (F := F)) (wtC c 1) (3 + 1) ∅ 0)
    ⊢ (bigSep Finset.univ fun k : Own => atPos (ER (F := F)) ((c : Thread nD τ), osem k) (match k with | .inl _ => 0 + 1 | .inr _ => 3 + 1) ∅ 0 : sProp 𝕄) := by
  rw [BI.bigSep_univ_sum, BI.bigSep_univ_sum, two]
  exact .rfl

theorem close_bar : iprop(inv I K (barC c) ∗ atPos (ER (F := F)) (barC c) (0 + 1) ∅ 0) ⊢ (|={Set.univ}=> semVal (barC c) 0 : sProp 𝕄) :=
  Rounds.cell_close ER (sched I) (Set.mem_univ (K (barC c))) id (duties_bar_later I c)

/-- The kernel's six scratch buffers, at anything. -/
def scratch : sProp 𝕄 :=
  iprop((∃ f, (c : Thread nD τ).loc cc0_scratch0 ↦{fullShare} f) ∗ (∃ f, (c : Thread nD τ).loc cc0_scratch1 ↦{fullShare} f)
    ∗ (∃ f, (c : Thread nD τ).loc cc0_scratch2 ↦{fullShare} f) ∗ (∃ f, (c : Thread nD τ).loc cc0_scratch3 ↦{fullShare} f)
    ∗ (∃ f, (c : Thread nD τ).loc cc0_scratch4 ↦{fullShare} f) ∗ (∃ f, (c : Thread nD τ).loc cc0_scratch5 ↦{fullShare} f))

/-- The staged blocks before the body. -/
def staged : sProp 𝕄 :=
  iprop(pt c cc0_stg0_0 (I c).xb ∗ pt c cc0_stg1_0 (I c).asg ∗ pt c cc0_stg2_0 (I c).rnk)

theorem tks_four (i : Fin 2) : (bigSep Finset.univ fun r : Fin 4 => dutyTok (ER (F := F)) (wtC c i) r.val ()) ⊢ tks (F := F) c i 4 := by
  rw [four]
  unfold tks tks tks tks tks
  iintro ⟨H0, H1, H2, H3⟩
  isplitl [H0]; · iexact H0
  isplitl [H1]; · iexact H1
  isplitl [H2]; · iexact H2
  isplitl [H3]; · iexact H3
  iempintro

theorem barPay_peer : (barPay (F := F) (peer c) : sProp 𝕄)
    = iprop((bigSep Finset.univ fun j => chAny (F := F) c (mC (dstI j)) (ecI j)) ∗ bigSep Finset.univ fun j => reached (ER (F := F)) (rcvC c j) 0) := by
  unfold barPay
  simp only [peer_peer, bigSep_sep']

/-- The body is entered. -/
theorem enters : iprop(opened I K c ∗ scratch (F := F) c ∗ pt c main_arg2 (I c).v1 ∗ pt c main_arg3 (I c).v2 ∗ OW (F := F) c 9 ∗ staged I c ∗ ∃ f, pt (F := F) c cc0_stg3_0 f)
    ⊢ iprop(ctx I K c ∗ enter I c) := by
  unfold opened scratch staged toks creds enter idle1 idle2 tok pos
  rw [barPay_peer]
  simp only [bigSep_sep']
  rw [own_split c (fun g => atPos (ER (F := F)) g 0 ∅ 0), own_split c (fun g => reached (ER (F := F)) g 0), two, two, two]
  iintro ⟨⟨#HI, Hb, ⟨⟨⟨Has, Har⟩, Hw0, Hw1⟩, ⟨Hrs, Hrr⟩, Hr0, Hr1⟩, HrP, ⟨HtB, Hts, Htr, Ht0, Ht1⟩, ⟨HcB, Hcr⟩, #Hlev⟩, ⟨S0, S1, S2, S3, S4, S5⟩, Hv1, Hv2, HO, ⟨Hx, Ha, Hr⟩, Ho⟩
  isplitr
  · iapply (invs_ctx I K c); isplitr; · iexact HI
    iexact Hlev
  isplitl [HO]; · iexact HO
  isplitl [HtB HrP S2 S3 Hrr]
  · isplitl [HtB]; · iexact HtB
    isplitl [HrP]; · iexact HrP
    isplitl [S2 S3]
    · iapply (srcs_of (F := F) c 2 3 dstI rfl); isplitl [S2]; · iexact S2
      iexact S3
    iexact Hrr
  isplitl [Hb]; · iexact Hb
  isplitl [HcB]; · iexact HcB
  isplitl [Hw0 Hr0 Ht0 Hv1 S4]
  · isplitl [Hw0]; · iexact Hw0
    isplitl [Hr0]; · iexact Hr0
    isplitl [Ht0]; · iapply (tks_four (F := F) c 0); iexact Ht0
    isplitl [Hv1]; · iexact Hv1
    iexact S4
  isplitl [Hw1 Hr1 Ht1 Hv2 S5]
  · isplitl [Hw1]; · iexact Hw1
    isplitl [Hr1]; · iexact Hr1
    isplitl [Ht1]; · iapply (tks_four (F := F) c 1); iexact Ht1
    isplitl [Hv2]; · iexact Hv2
    iexact S5
  isplitl [Hts Hrs Htr]
  · isplitl [Hts]; · iexact Hts
    isplitl [Hrs]; · iexact Hrs
    iexact Htr
  isplitl [Has Har Hcr]
  · isplitl [Has]; · iexact Has
    isplitl [Har]; · iexact Har
    iexact Hcr
  isplitl [S0 S1]
  · iapply (srcs_of (F := F) c 0 1 srcI rfl); isplitl [S0]; · iexact S0
    iexact S1
  isplitl [Hx]; · iexact Hx
  isplitl [Ha]; · iexact Ha
  isplitl [Hr]; · iexact Hr
  iexact Ho

/-- What is left once the cells are closed. -/
def closed : sProp 𝕄 :=
  iprop(semVal (barC c) 0 ∗ Pipeline.ownSems0 osem c ∗ scratch (F := F) c ∗ pt c main_arg2 (I c).v1 ∗ pt c main_arg3 (I c).v2)

/-- The body is left: every cell closes at zero. -/
theorem leaves : iprop(invs I K c ∗ leave I c)
    ⊢ (|={Set.univ}=> iprop(closed I c ∗ OW (F := F) c 0 ∗ staged I c ∗ pt c cc0_stg3_0 (result I c)) : sProp 𝕄) := by
  unfold leave got1 got2 done
  simp only [bigSep_sep']
  iintro ⟨#HI, HO, Hb, ⟨Hw0, -, -, Hv1, S4⟩, ⟨Hw1, -, -, Hv2, S5⟩, ⟨Has, Har⟩, Hs, Hd, Hx, Ha, Hr, Ho⟩
  imod (close_bar I K c) $$ [Hb] with Hb
  · isplitr
    · unfold invs; icases HI with ⟨#H, -⟩; iexact H
    iexact Hb
  imod (close_all I K c) $$ [Has Har Hw0 Hw1] with Hc
  · isplitr; · iapply (invs_own I K c); iexact HI
    iapply (ends (F := F) c)
    isplitl [Has Har]
    · isplitl [Has]; · iexact Has
      iexact Har
    isplitl [Hw0]; · iexact Hw0
    iexact Hw1
  imodintro
  isplitl [Hb Hc Hs Hd Hv1 Hv2 S4 S5]
  · unfold closed scratch
    isplitl [Hb]; · iexact Hb
    isplitl [Hc]; · iexact Hc
    ihave Hs := (srcs_to (F := F) c 0 1 srcI rfl (fun _ => Classical.choice inferInstance) (fun _ => Classical.choice inferInstance)) $$ [Hs]
    · iexact Hs
    ihave Hd := (srcs_to (F := F) c 2 3 dstI rfl (fun _ => Classical.choice inferInstance) (fun _ => Classical.choice inferInstance)) $$ [Hd]
    · iexact Hd
    icases Hs with ⟨S0, S1⟩
    icases Hd with ⟨S2, S3⟩
    isplitl [S0 S1 S2 S3 S4 S5]
    · isplitl [S0]; · iexact S0
      isplitl [S1]; · iexact S1
      isplitl [S2]; · iexact S2
      isplitl [S3]; · iexact S3
      isplitl [S4]; · iexists _; iexact S4
      iexists _; iexact S5
    isplitl [Hv1]; · iexact Hv1
    iexact Hv2
  isplitl [HO]; · iexact HO
  isplitl [Hx Ha Hr]
  · unfold staged
    isplitl [Hx]; · iexact Hx
    isplitl [Ha]; · iexact Ha
    iexact Hr
  iexact Ho

/-- The whole body, cells opened before and closed after. -/
theorem body_closed {Q : PUnit → sProp 𝕄} :
    iprop((opened I K c ∗ scratch (F := F) c ∗ pt c main_arg2 (I c).v1 ∗ pt c main_arg3 (I c).v2 ∗ OW (F := F) c 9 ∗ staged I c ∗ ∃ f, pt (F := F) c cc0_stg3_0 f)
      ∗ (iprop(closed I c ∗ OW (F := F) c 0 ∗ staged I c ∗ pt c cc0_stg3_0 (result I c)) -∗ Q ⟨⟩))
    ⊢ WP c (onArgs (cc0__moe_body (F := F))) Q := by
  refine BIBase.Entails.trans ?_ (wp_fupd frame (wpE defs₀ 𝒱₀ (c : Thread nD τ) none) (E := Set.univ) (onArgs (cc0__moe_body (F := F))) Q)
  refine BIBase.Entails.trans ?_ (body_run I K c)
  iintro ⟨H, Hk⟩
  ihave #HI := (show _ ⊢ invs I K c from by unfold opened; iintro ⟨⟨#H, -⟩, -⟩; iexact H) $$ H
  isplitl [H]; · iapply (enters I K c); iexact H
  iintro Hl
  imod (leaves I K c) $$ [Hl] with H
  · isplitr; · iexact HI
    iexact Hl
  imodintro
  iapply Hk
  iexact H

end Cert.KernelIdeal.Talk

end
-- ==== Proof.Region.lean ====
/-
  The kernel's call as one segment of the program.
-/
module

public import proofs.«01_k».proof.Proof.Cells
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.RegionTalk
public import Idealize.ShloMosaic.Lib.Pipeline.FrameTail

@[expose] public section

set_option maxRecDepth 16384

noncomputable section

namespace Cert.KernelIdeal.Talk

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

attribute [local instance] Cert.KernelIdeal.Gen.facts

local notation "𝕄" => MT nD τ sig Unit (Elt F) ℕ UU ℕ

open Idealize.ShloMosaic.Pipeline (Dat BodyObligation)

variable (m : (ℓ : Loc nD τ sig) → Buf (Elt F) ℓ) (c : Dev nD)

/-- What device c's body reads: its three staged blocks and its weights. -/
def inp : Dev nD → Inp F := fun c =>
  ⟨iblk m c 0 t0_0, iblk m c 1 t0_0, iblk m c 2 t0_0, V m c main_arg2, V m c main_arg3⟩

/-- What a device has ready for the body, and what it has after it. -/
def ready : sProp 𝕄 :=
  iprop((∃ K, opened (inp m) K c) ∗ scratch (F := F) c ∗ pt c main_arg2 (inp m c).v1 ∗ pt c main_arg3 (inp m c).v2 ∗ ∃ r, prngReg c r)
def spent : sProp 𝕄 := iprop(closed (inp m) c ∗ ∃ r, prngReg c r)

/-- The call's one point: it owes its partner before it, nothing after. -/
def dat (c : Dev nD) : Dat τ (Elt F) Unit ℕ UU ℕ cfg0 c where
  A w := V m c (Pipeline.arrRef spec0 w)
  after := fun w _ => match w with
    | 0 => (inp m c).xb
    | 1 => (inp m c).asg
    | 2 => (inp m c).rnk
    | 3 => result (inp m) c
  Φ t := if t.val = 0 then ready m c else spent m c
  q _ := fullShare
  owed t := if t.val = 0 then owed c 9 else 0

abbrev adm : (p : Fin 1) → (pcfgs (F := F) p).Adm := fun p => (cfgs p).toPCfg_adm
def pdats : (p : Fin 1) → (c : Dev nD) → Dat τ (Elt F) Unit ℕ UU ℕ (Pipeline.pin (pcfgs (F := F)) adm p) c
  | 0 => dat m

theorem owed_zero : (pdats m 0 c).owed 0 = owed c 9 := by
  show (if ((0 : Fin (cfg0.N + 1)).val = 0) then owed c 9 else 0) = _; exact if_pos rfl
theorem owed_first : (dat m c).owed (Fin.castSucc (t0_0 : Fin cfg0.N)) = owed c 9 := by
  show (if (Fin.castSucc (t0_0 : Fin cfg0.N)).val = 0 then owed c 9 else 0) = _; exact if_pos rfl
theorem owed_last : (pdats m 0 c).owed (Fin.last _) = 0 := by
  show (if (Fin.last cfg0.N).val = 0 then owed c 9 else 0) = 0
  rw [Fin.val_last, if_neg (by rw [show cfg0.N = 1 from N_1']; decide)]
where N_1' : cfg0.N = 1 := N_0

theorem owesAt_elim (t : Fin (cfg0.N + 1)) (k : ℕ) (h0 : (dat m c).owed t = owed c k) :
    ((dat m c).owesAt () t : sProp 𝕄) ⊢ OW (F := F) c k := by
  unfold Dat.owesAt Pipeline.owesWithin OW; rw [h0]
  iintro ⟨%W, -, HO⟩; iexists W; iexact HO
theorem owesAt_intro (t : Fin (cfg0.N + 1)) (k : ℕ) (h0 : (dat m c).owed t = owed c k) :
    OW (F := F) c k ⊢ ((dat m c).owesAt () t : sProp 𝕄) := by
  unfold Dat.owesAt Pipeline.owesWithin Dat.bound OW; rw [h0]
  iintro ⟨%W, HO⟩; iexists W; isplitr; · ipureintro; exact fun _ _ => Or.inl trivial
  iexact HO

theorem before_0 (d) : (dat m c).before 0 t0_0 d = (inp m c).xb := by unfold Dat.before; rw [if_pos (fetch0_0 t0_0)]; rfl
theorem before_1 (d) : (dat m c).before 1 t0_0 d = (inp m c).asg := by unfold Dat.before; rw [if_pos (fetch0_1 t0_0)]; rfl
theorem before_2 (d) : (dat m c).before 2 t0_0 d = (inp m c).rnk := by unfold Dat.before; rw [if_pos (fetch0_2 t0_0)]; rfl

/-- A staged buffer at given contents, as the pipeline spells it. -/
def stg (b : Ref sig .tc) (X : Buf (Elt F) ((c : Thread nD τ).loc b)) : sProp 𝕄 := iprop(∃ f, ⌜f = X⌝ ∗ (c : Thread nD τ).loc b ↦{fullShare} f)
theorem stg_out {b : Ref sig .tc} {X Y : Buf (Elt F) ((c : Thread nD τ).loc b)} (h : X = Y) : stg c b X ⊢ pt c b Y := by
  subst h; unfold stg pt; iintro ⟨%f, %hf, H⟩; subst hf; iexact H
theorem stg_in {b : Ref sig .tc} {X : Buf (Elt F) ((c : Thread nD τ).loc b)} : pt c b X ⊢ stg c b X := by
  unfold stg pt; iintro H; iexists X; isplitr; · ipureintro; rfl
  iexact H

/-- The body as the pipeline calls it: what it is entered and left with. -/
def bodyPre : sProp 𝕄 :=
  iprop(ready m c ∗ (dat m c).owesAt () (Fin.castSucc (t0_0 : Fin cfg0.N))
    ∗ (∃ d, stg c cc0_stg0_0 ((dat m c).before 0 t0_0 d)) ∗ (∃ d, stg c cc0_stg1_0 ((dat m c).before 1 t0_0 d))
    ∗ (∃ d, stg c cc0_stg2_0 ((dat m c).before 2 t0_0 d)) ∗ (∃ d, stg c cc0_stg3_0 ((dat m c).before 3 t0_0 d)))
def bodyPost : sProp 𝕄 :=
  iprop(spent m c ∗ (dat m c).owesAt () (Fin.succ (t0_0 : Fin cfg0.N))
    ∗ stg c cc0_stg0_0 (inp m c).xb ∗ stg c cc0_stg1_0 (inp m c).asg ∗ stg c cc0_stg2_0 (inp m c).rnk ∗ stg c cc0_stg3_0 (result (inp m) c))

theorem body_ok : bodyPre m c ⊢ WP c (onArgs (cc0__moe_body (F := F))) (fun _ => bodyPost m c) := by
  unfold bodyPre ready
  iintro ⟨⟨⟨%K, HK⟩, Hs, H1, H2, Hp⟩, HO, ⟨%d0, X0⟩, ⟨%d1, X1⟩, ⟨%d2, X2⟩, ⟨%d3, X3⟩⟩
  iapply (body_closed (inp m) K c)
  isplitr [Hp]
  · isplitl [HK]; · iexact HK
    isplitl [Hs]; · iexact Hs
    isplitl [H1]; · iexact H1
    isplitl [H2]; · iexact H2
    isplitl [HO]; · iapply (owesAt_elim m c _ 9 (owed_first m c)); iexact HO
    isplitl [X0 X1 X2]
    · unfold staged
      isplitl [X0]; · iapply (stg_out c (before_0 m c d0)); iexact X0
      isplitl [X1]; · iapply (stg_out c (before_1 m c d1)); iexact X1
      iapply (stg_out c (before_2 m c d2)); iexact X2
    iexists _; iapply (stg_out c rfl); iexact X3
  iintro ⟨Hc, HO, Hst, Ho⟩
  unfold bodyPost spent staged
  isplitl [Hc Hp]
  · isplitl [Hc]; · iexact Hc
    iexact Hp
  isplitl [HO]; · iapply (owesAt_intro m c (Fin.succ (t0_0 : Fin cfg0.N)) 0 (owed_last m c)); iexact HO
  icases Hst with ⟨X0, X1, X2⟩
  isplitl [X0]; · iapply (stg_in c); iexact X0
  isplitl [X1]; · iapply (stg_in c); iexact X1
  isplitl [X2]; · iapply (stg_in c); iexact X2
  iapply (stg_in c); iexact Ho

theorem body_at : (defs₀ (F := F) .tc (0 : Fin 1) ((t0_0 : Fin cfg0.N), cfg0.slots t0_0)) = onArgs (cc0__moe_body (F := F)) := rfl

theorem pre_at : iprop((dat m c).Φ (Fin.castSucc (t0_0 : Fin cfg0.N)) ∗ (dat m c).owesAt () (Fin.castSucc (t0_0 : Fin cfg0.N))
    ∗ (∃ d f, ⌜f = (dat m c).before 0 t0_0 d⌝ ∗ (c : Thread nD τ).loc cc0_stg0_0 ↦{fullShare} f)
    ∗ (∃ d f, ⌜f = (dat m c).before 1 t0_0 d⌝ ∗ (c : Thread nD τ).loc cc0_stg1_0 ↦{fullShare} f)
    ∗ (∃ d f, ⌜f = (dat m c).before 2 t0_0 d⌝ ∗ (c : Thread nD τ).loc cc0_stg2_0 ↦{fullShare} f)
    ∗ (∃ d f, ⌜f = (dat m c).before 3 t0_0 d⌝ ∗ (c : Thread nD τ).loc cc0_stg3_0 ↦{fullShare} f)) ⊢ bodyPre m c := .rfl

theorem after_0 : (dat m c).after 0 t0_0 = (inp m c).xb := rfl
theorem after_1 : (dat m c).after 1 t0_0 = (inp m c).asg := rfl
theorem after_2 : (dat m c).after 2 t0_0 = (inp m c).rnk := by
  dsimp only [dat]
theorem after_3 : (dat m c).after 3 t0_0 = result (inp m) c := rfl

theorem spent_at : (dat m c).Φ (Fin.succ (t0_0 : Fin cfg0.N)) = spent m c :=
  show (if (Fin.succ (t0_0 : Fin cfg0.N)).val = 0 then ready m c else spent m c) = _ from if_neg (Nat.succ_ne_zero (t0_0 : Fin cfg0.N).val)

theorem post_at : bodyPost m c ⊢ iprop((dat m c).Φ (Fin.succ (t0_0 : Fin cfg0.N)) ∗ (dat m c).owesAt () (Fin.succ (t0_0 : Fin cfg0.N))
    ∗ (∃ f, ⌜f = (dat m c).after 0 t0_0⌝ ∗ (c : Thread nD τ).loc cc0_stg0_0 ↦{fullShare} f)
    ∗ (∃ f, ⌜f = (dat m c).after 1 t0_0⌝ ∗ (c : Thread nD τ).loc cc0_stg1_0 ↦{fullShare} f)
    ∗ (∃ f, ⌜f = (dat m c).after 2 t0_0⌝ ∗ (c : Thread nD τ).loc cc0_stg2_0 ↦{fullShare} f)
    ∗ (∃ f, ⌜f = (dat m c).after 3 t0_0⌝ ∗ (c : Thread nD τ).loc cc0_stg3_0 ↦{fullShare} f)) := by
  rw [spent_at, after_0, after_1, after_2, after_3]
  exact BIBase.Entails.rfl

/-- The library's body obligation. -/
theorem body_obligation : BodyObligation (dat m c) (defs₀ (F := F)) 𝒱₀ () Set.univ := fun t => by
  rw [show t = t0_0 from fin_N0 t]
  rw [bigSep_W0, bigSep_W0]
  simp only [owns_whole_eq]
  refine BIBase.Entails.trans (pre_at m c) ?_
  refine BIBase.Entails.trans (body_ok m c) ?_
  exact wp_mono _ _ _ fun _ => post_at m c

end Cert.KernelIdeal.Talk

end
-- ==== Proof.Call.lean ====
/-
  The kernel's call as one segment of the program: the facts the library asks, and the segment.
-/
module

public import proofs.«01_k».proof.Proof.Region

@[expose] public section

set_option maxRecDepth 16384

noncomputable section

namespace Cert.KernelIdeal.Talk

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

attribute [local instance] Cert.KernelIdeal.Gen.facts

local notation "𝕄" => MT nD τ sig Unit (Elt F) ℕ UU ℕ

open Idealize.ShloMosaic.Pipeline (Dat BodyObligation)

variable (m : (ℓ : Loc nD τ sig) → Buf (Elt F) ℓ) (c : Dev nD)

/-- A device's buffers before the call, and after it. -/
abbrev W₀ (c : Dev nD) : Valuation τ sig (Elt F) := V0 m c
def W₁ (c : Dev nD) : Valuation τ sig (Elt F) := Pipeline.afterRegion (dat m c) (V0 m c)

/-- The buffers of a device that live outside the call. -/
abbrev bufs : Finset (DevRef τ sig) := (StableHlo.tcRefs τ sig).filter fun b => ¬ b.isScoped
abbrev arrs : Finset (DevRef τ sig) := Pipeline.arrRefs (τ := τ) spec0
abbrev rest : Finset (DevRef τ sig) := bufs \ arrs
/-- The weights, which the kernel reads where they lie. -/
abbrev wts : Finset (DevRef τ sig) := {Proc.devRef .tc main_arg2, Proc.devRef .tc main_arg3}

theorem arrs_sub : arrs ⊆ bufs := by decide
theorem wts_sub : wts ⊆ rest := by decide

theorem W₁_keep (b : Ref sig .tc) (hb : ∀ w, b ≠ Pipeline.arrRef spec0 w) : W₁ m c (Proc.devRef .tc b) = V m c b :=
  Pipeline.afterRegion_of_not_arr (dat m c) (V0 m c) hb

theorem W₁_rest (b : DevRef τ sig) (hb : b ∈ rest) : W₁ m c b = W₀ m c b := by
  obtain ⟨h1, h2⟩ := Finset.mem_sdiff.mp hb
  obtain ⟨r, -, rfl⟩ := Finset.mem_map.mp (Finset.mem_filter.mp h1).1
  exact W₁_keep m c r fun w e => h2 (Finset.mem_map_of_mem _ (Finset.mem_image.mpr ⟨w, Finset.mem_univ w, e.symm⟩))

theorem wts_held (W : Valuation τ sig (Elt F)) : (StableHlo.held (c : Thread nD τ) wts W : sProp 𝕄)
    = iprop(pt c main_arg2 (W main_arg2) ∗ pt c main_arg3 (W main_arg3)) := by
  unfold StableHlo.held
  exact bigSep_eq_bigSepL_of_eq ([Proc.devRef .tc main_arg2, Proc.devRef .tc main_arg3] : List (DevRef τ sig)) (by decide) (by decide) _

theorem cellOf_inj' : Function.Injective (Pipeline.cellOf (nD := nD) (τ := τ) (Pipeline.pin (pcfgs (F := F)) adm)) := cellOf_inj

theorem kitP : Pipeline.PLaunchFacts (nD := nD) (τ := τ) (pcfgs (F := F)) 0 where
  cellOf_inj a := by rw [Subsingleton.elim a adm]; exact cellOf_inj'
  win := launch0.win
  pre := Pipeline.PreFacts.none _
  block_pos := launch0.block_pos
  arr_whole := launch0.arr_whole
  stage_whole := launch0.stage_whole

theorem ready_at : (pdats m 0 c).Φ 0 = ready m c :=
  show (if ((0 : Fin (cfg0.N + 1)).val = 0) then ready m c else spent m c) = _ from if_pos rfl

theorem share_full (w : Fin cfg0.W) : (pdats m 0 c).share w = fullShare := ite_self _

/-- The staging cells: waited on first. -/
theorem stage_lvl : ∀ (w : Fin cfg0.W) (s : Fin (cfg0.win w).nbuf), lvl (use (SemLoc.dma ((cfg0.win w).sem s))) ≤ 0 := by decide

theorem hin : iprop(Pipeline.scopedRest (Pipeline.pin (pcfgs (F := F)) adm 0).spec c ∗ (∃ r, prngReg c r) ∗ StableHlo.held (c.tc : Thread nD τ) wts (W₀ m c) ∗ Xk (inp m) c)
    ⊢ ((pdats m 0 c).Φ 0 : sProp 𝕄) := by
  rw [show (pdats m 0 c).Φ 0 = ready m c from ready_at m c, wts_held]
  rw [show (Pipeline.scopedRest (Pipeline.pin (pcfgs (F := F)) adm 0).spec c : sProp 𝕄) = scratch c from scopedRest0_eq c]
  unfold ready Xk
  iintro ⟨Hs, Hp, ⟨H1, H2⟩, HK⟩
  isplitl [HK]; · iexact HK
  isplitl [Hs]; · iexact Hs
  isplitl [H1]; · iexact H1
  isplitl [H2]; · iexact H2
  iexact Hp

theorem hout : ((pdats m 0 c).Φ (Fin.last (Pipeline.pin (pcfgs (F := F)) adm 0).N) : sProp 𝕄)
    ⊢ iprop(Pipeline.scopedRest (Pipeline.pin (pcfgs (F := F)) adm 0).spec c ∗ (∃ r, prngReg c r) ∗ StableHlo.held (c.tc : Thread nD τ) wts (W₁ m c)
      ∗ Pipeline.ownSems0 osem c ∗ semVal (barC c) 0) := by
  rw [show (pdats m 0 c).Φ (Fin.last (Pipeline.pin (pcfgs (F := F)) adm 0).N) = spent m c from spent_at m c, wts_held,
    W₁_keep m c main_arg2 (by decide), W₁_keep m c main_arg3 (by decide)]
  rw [show (Pipeline.scopedRest (Pipeline.pin (pcfgs (F := F)) adm 0).spec c : sProp 𝕄) = scratch c from scopedRest0_eq c]
  unfold spent closed
  iintro ⟨⟨Hb, Ho, Hs, H1, H2⟩, Hp⟩
  isplitl [Hs]; · iexact Hs
  isplitl [Hp]; · iexact Hp
  isplitl [H1 H2]
  · isplitl [H1]; · iexact H1
    iexact H2
  isplitl [Ho]; · iexact Ho
  iexact Hb

theorem cutD (t : Fin ((Pipeline.pin (pcfgs (F := F)) adm 0).N + 1)) (g : GSem nD τ sig) (i : Unit) (h : 0 < (pdats m 0 c).owed t g i) :
    i ∈ L g ∧ (0 : ℕ) < lv g i := by
  have e : (pdats m 0 c).owed t = if t.val = 0 then owed c 9 else 0 := rfl
  rw [e] at h
  split at h
  · obtain ⟨k, hk, rfl⟩ := owed_pos c 9 g i h
    refine ⟨by unfold L; rw [if_pos (payee_tc c k)]; exact Finset.mem_singleton_self _, ?_⟩
    by_cases h8 : k < 8
    · rw [show lv (payee c k) i = 9 - k from lv_payee c k h8]; omega
    · unfold payee lv
      rw [if_neg h8, show (barC (peer c)).2 = .reg barrier0 from rfl, use_bar]
      exact Nat.one_pos
  · exact absurd h (Nat.lt_irrefl 0)

set_option backward.isDefEq.respectTransparency.types false in
def reg : Pipeline.RegionSeg (pcfgs (F := F)) adm (pdats m) () defs₀ 𝒱₀ L lv 0 :=
  Pipeline.RegionSeg.ofTalk (pcfgs (F := F)) adm (pdats m) () defs₀ 𝒱₀ L lv 0 osem (by decide : Pipeline.OwnSemFacts spec0 osem)
    wts rest wts_sub kitP rfl (fun c => (body_obligation m c).loose)
    (fun _ => 0) (fun c => owed c 9) (fun c => (owed_zero m c).trans (zero_add _).symm) (owed_last m) (fun _ => rfl) (share_full m)
    (W₀ m) (W₁ m) (fun c b hb => W₁_rest m c b (Finset.mem_sdiff.mp hb).1)
    (Tk (inp m)) (fun c => semVal (barC c) 0) (Xk (inp m)) (fun c => semVal (barC c) 0) (hopen (inp m)) (hin m) (hout m)
    (fun c => by iintro H; imodintro; iexact H)
    (fun _ => 0)
    ⟨fun c w s => Finset.mem_singleton_self _, fun c w s => stage_lvl w s, fun c t g i h => cutD m c t g i h⟩
    (fun _ => iprop(emp))
    (fun _ _ => rfl) (fun c w => (Pipeline.afterRegion_arr (dat m c) (V0 m c) launch0.win.arr_inj w).symm)

end Cert.KernelIdeal.Talk

end
-- ==== Proof.Run.lean ====
/-
  The whole program's run, from any memory.
-/
module

public import proofs.«01_k».proof.Proof.Call

@[expose] public section

set_option maxRecDepth 16384

noncomputable section

namespace Cert.KernelIdeal.Talk

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

attribute [local instance] Cert.KernelIdeal.Gen.facts

local notation "𝕄" => MT nD τ sig Unit (Elt F) ℕ UU ℕ

open Idealize.ShloMosaic.Pipeline (Dat)

variable (m : (ℓ : Loc nD τ sig) → Buf (Elt F) ℓ) (ρ : Dev nD → PrngReg) (c : Dev nD)

local notation "ℍ" => Pipeline.HostSeg (Name := ℕ) (U := UU) (pcfgs (F := F)) defs₀ 𝒱₀ L lv

/-- The buffers' contents along the program: at launch, and after each stretch of it. -/
abbrev V₀ (c : Dev nD) : Valuation τ sig (Elt F) := fun b => m (c, b)
abbrev Va (c : Dev nD) : Valuation τ sig (Elt F) := StableHlo.after hostOps0 (V₀ m c)
abbrev Vb (c : Dev nD) : Valuation τ sig (Elt F) := StableHlo.after hostOps0_1 (Va m c)
abbrev Vc (c : Dev nD) : Valuation τ sig (Elt F) := StableHlo.after hostOps0_2 (Vb m c)
abbrev W₂ (c : Dev nD) : Valuation τ sig (Elt F) := StableHlo.after hostOps1 (W₁ m c)
theorem Vc_eq : Vc m c = W₀ m c := rfl

/-- What rides beside the buffers up to the call, and after it. -/
def R (c : Dev nD) : sProp 𝕄 := iprop((Tk (inp m) c ∗ ∃ r, prngReg c r) ∗ OW (F := F) c 9)
def R' (c : Dev nD) : sProp 𝕄 := iprop(semVal (barC c) 0 ∗ OW (F := F) c 0)

theorem in_bufs {ops : List (HloOp τ sig (Elt F))} (h : ops.Forall fun op => op.bufs ⊆ StableHlo.tcRefs τ sig) : ∀ op ∈ ops, op.bufs ⊆ bufs :=
  fun op ho => Pipeline.sub_ucRefs op (List.forall_iff_forall_mem.mp h op ho)
theorem no_fresh {ops : List (HloOp τ sig (Elt F))} (h : ops.Forall fun op => op.fresh = ∅) : ∀ op ∈ ops, op.fresh = ∅ :=
  List.forall_iff_forall_mem.mp h

def seg0 : ℍ := Pipeline.HostSeg.ofOps _ _ _ _ _ bufs hostOps0 (in_bufs hostOps0_sub) (no_fresh hostOps0_fresh) (V₀ m) (R m)
def seg1 : ℍ := Pipeline.HostSeg.ofOps _ _ _ _ _ bufs hostOps0_1 (in_bufs hostOps0_1_sub) (no_fresh hostOps0_1_fresh) (Va m) (R m)
def seg2 : ℍ := Pipeline.HostSeg.ofOps _ _ _ _ _ bufs hostOps0_2 (in_bufs hostOps0_2_sub) (no_fresh hostOps0_2_fresh) (Vb m) (R m)
def seg4 : ℍ := Pipeline.HostSeg.ofOps _ _ _ _ _ bufs hostOps1 (in_bufs hostOps1_sub) (no_fresh hostOps1_fresh) (W₁ m) (R' (F := F))

/-- The program as its segments. -/
def segs : List (Pipeline.Seg (pcfgs (F := F)) adm (pdats m) () defs₀ 𝒱₀ L lv) :=
  [.host (seg0 m), .host (seg1 m), .host (seg2 m), .region (reg m), .host (seg4 m)]

theorem main_eq : main (F := F) c = Pipeline.Seg.run (segs m) := by
  rw [main_chain, Pipeline.Seg.run_eq_chain]; rfl

theorem reg_pre : iprop(StableHlo.held (c : Thread nD τ) bufs (Vc m c) ∗ R m c) ⊢ (reg m).pre c := by
  show _ ⊢ iprop(StableHlo.held (c.tc : Thread nD τ) arrs (W₀ m c) ∗ (∃ r, prngReg c r)
    ∗ (StableHlo.held (c.tc : Thread nD τ) rest (W₀ m c) ∗ emp) ∗ Tk (inp m) c ∗ ∃ Wd, owes (c : Thread nD τ) (0 + owed c 9) Wd)
  rw [Vc_eq, StableHlo.held_sub_split (c.tc : Thread nD τ) arrs_sub (W₀ m c), zero_add]
  unfold R OW
  iintro ⟨⟨Ha, Hr⟩, ⟨HT, Hp⟩, HO⟩
  isplitl [Ha]; · iexact Ha
  isplitl [Hp]; · iexact Hp
  isplitl [Hr]
  · isplitl [Hr]; · iexact Hr
    iempintro
  isplitl [HT]; · iexact HT
  iexact HO

theorem reg_post : (reg m).post c ⊢ iprop(StableHlo.held (c : Thread nD τ) bufs (W₁ m c) ∗ R' (F := F) c) := by
  show iprop(StableHlo.held (c.tc : Thread nD τ) arrs (W₁ m c) ∗ (∃ r, prngReg c r)
    ∗ (StableHlo.held (c.tc : Thread nD τ) rest (W₁ m c) ∗ emp) ∗ semVal (barC c) 0 ∗ ∃ Wd, owes (c : Thread nD τ) (0 : CellTallies nD τ sig Unit) Wd) ⊢ _
  rw [StableHlo.held_sub_split (c.tc : Thread nD τ) arrs_sub (W₁ m c)]
  unfold R' OW
  iintro ⟨Ha, -, ⟨Hr, -⟩, Hb, HO⟩
  isplitl [Ha Hr]
  · isplitl [Ha]; · iexact Ha
    iexact Hr
  isplitl [Hb]; · iexact Hb
  iexact HO

/-! ## The launch: every cell recorded, the barrier cells open, the others dormant -/

theorem osem_inj : Function.Injective osem := by decide
theorem osem_ne_bar : ∀ k : Own, osem k ≠ .reg barrier0 := by decide

def barEmb : Dev nD ↪ GSem nD τ sig := ⟨fun c => barC c, fun _ _ h => congrArg (fun g : GSem nD τ sig => g.1.1) h⟩
def ownEmb : Dev nD × Own ↪ GSem nD τ sig :=
  ⟨fun ck => ((ck.1 : Thread nD τ), osem ck.2), fun _ _ h =>
    Prod.ext (congrArg (fun g : GSem nD τ sig => g.1.1) h) (osem_inj (congrArg Prod.snd h))⟩
abbrev barCells : Finset (GSem nD τ sig) := Finset.univ.map barEmb
abbrev ownCells : Finset (GSem nD τ sig) := Finset.univ.map ownEmb

/-- One token per duty of a device's cells: the barrier's, a departure's, an arrival's, a weight copy's by its round. -/
abbrev Duties := (Fin 1 ⊕ (Fin 8 ⊕ Fin 8)) ⊕ (Fin 2 × Fin 4)
def dsem : Duties → SemLoc sig
  | .inl (.inl _) => .reg barrier0
  | .inl (.inr (.inl j)) => .dma (sndS j)
  | .inl (.inr (.inr j)) => .dma (rcvS j)
  | .inr (i, _) => .dma (wS i)
def drnd : Duties → ℕ
  | .inl _ => 0
  | .inr (_, r) => r.val
theorem duty_inj : Function.Injective (fun k : Duties => (dsem k, drnd k)) := by decide
def allToks : Finset (GSem nD τ sig × ℕ × Unit) :=
  Finset.univ.map ⟨fun ck : Dev nD × Duties => (((ck.1 : Thread nD τ), dsem ck.2), drnd ck.2, ()), fun _ _ h =>
    Prod.ext (congrArg (fun t : GSem nD τ sig × ℕ × Unit => t.1.1.1) h)
      (duty_inj (Prod.ext (congrArg (fun t : GSem nD τ sig × ℕ × Unit => t.1.2) h) (congrArg (fun t : GSem nD τ sig × ℕ × Unit => t.2.1) h)))⟩

theorem cells_disjoint : Disjoint (barCells : Finset (GSem nD τ sig)) ownCells := by
  rw [Finset.disjoint_left]
  rintro g h₁ h₂
  obtain ⟨c, -, rfl⟩ := Finset.mem_map.mp h₁
  obtain ⟨ck, -, h⟩ := Finset.mem_map.mp h₂
  exact osem_ne_bar ck.2 (congrArg Prod.snd h)

theorem bar_mem : barC c ∈ (barCells ∪ ownCells : Finset (GSem nD τ sig)) :=
  Finset.mem_union_left _ (Finset.mem_map_of_mem barEmb (Finset.mem_univ c))

/-- The launch element: the staging cells', and the protocol's. -/
def u₀ : UU :=
  (initOf (Pipeline.cells (Pipeline.pin (pcfgs (F := F)) adm) cellOf_inj') (Pipeline.launchToks (Pipeline.pin (pcfgs (F := F)) adm) cellOf_inj'),
    launchOf barCells ownCells allToks)

/-- The protocol's launch element, kept on one device until it is dealt. -/
def G (c : Dev nD) : sProp 𝕄 := if c = 0 then BI.own (ER (launchOf barCells ownCells allToks)) else iprop(emp)
theorem G_all : bigSep Finset.univ (G (F := F)) = BI.own (ER (launchOf barCells ownCells allToks)) := by
  rw [bigSep_univ_at _ (0 : Dev nD), bigSep_congr (s := Finset.univ.erase (0 : Dev nD)) (Ψ := fun _ => (BI.emp : sProp 𝕄))
      fun c hc => by unfold G; rw [if_neg (Finset.ne_of_mem_erase hc)]; rfl, BI.bigSep_emp_const]
  unfold G; rw [if_pos rfl]
  exact BI.equiv_iff.mp sep_emp

/-- All the records, and that every barrier cell's first round is reached. -/
def records (κ : GSem nD τ sig → ℕ) : sProp 𝕄 :=
  iprop((bigSep (barCells ∪ ownCells) fun g => inv (inp m) κ g) ∗ bigSep barCells fun g => reached ER g 0)
instance records_persistent (κ : GSem nD τ sig → ℕ) : BI.Persistent (records m κ) := by unfold records; infer_instance

theorem inv_bar (κ : GSem nD τ sig → ℕ) (c : Dev nD) : (bigSep (barCells ∪ ownCells) fun g => inv (inp m) κ g) ⊢ inv (inp m) κ (barC c) :=
  bigSep_elim (bar_mem c)
theorem inv_own (κ : GSem nD τ sig → ℕ) (c : Dev nD) :
    (bigSep (barCells ∪ ownCells) fun g => inv (inp m) κ g) ⊢ bigSep Finset.univ fun k : Own => inv (inp m) κ ((c : Thread nD τ), osem k) := by
  refine (bigSep_subset (t := Finset.univ.map ⟨fun k : Own => ((c : Thread nD τ), osem k), fun _ _ h => osem_inj (congrArg Prod.snd h)⟩) ?_).trans ?_
  · intro g hg
    obtain ⟨k, -, rfl⟩ := Finset.mem_map.mp hg
    exact Finset.mem_union_right _ (Finset.mem_map_of_mem ownEmb (Finset.mem_univ (c, k)))
  · rw [bigSep_map]; exact BI.Entails.refl _
theorem reached_bar (c : Dev nD) : (bigSep barCells fun g => (reached ER g 0 : sProp 𝕄)) ⊢ reached ER (barC c) 0 :=
  bigSep_elim (Finset.mem_map_of_mem barEmb (Finset.mem_univ c))

/-- What stays with device c alone. -/
def linear (c : Dev nD) : sProp 𝕄 :=
  iprop(atPos (ER (F := F)) (barC c) 0 ∅ 0 ∗ (bigSep Finset.univ fun k : Own => openTok (ER (F := F)) ((c : Thread nD τ), osem k)) ∗ toks (F := F) c)

theorem ghost_intro (κ : GSem nD τ sig → ℕ) (c : Dev nD) : iprop(records m κ ∗ linear (F := F) c) ⊢ iprop(∃ K, ghost (inp m) K c) := by
  unfold records linear ghost invs
  iintro ⟨⟨#HI, #HR⟩, HaB, Ho, Ht⟩
  iexists κ
  isplitr
  · isplitr; · iapply (inv_bar m κ c); iexact HI
    isplitr; · iapply (inv_bar m κ (peer c)); iexact HI
    isplitr; · iapply (inv_own m κ c); iexact HI
    iapply (inv_own m κ (peer c)); iexact HI
  isplitl [HaB]; · iexact HaB
  isplitl [Ho]; · iexact Ho
  isplitr; · iapply (reached_bar (F := F) (peer c)); iexact HR
  iexact Ht

/-- The tokens of a device's own cells. -/
def ownToks (c : Dev nD) : sProp 𝕄 :=
  iprop((dutyTok (ER (F := F)) (barC c) 0 () ∗ (bigSep Finset.univ fun j => dutyTok (ER (F := F)) (sndC c j) 0 ())
    ∗ (bigSep Finset.univ fun j => dutyTok (ER (F := F)) (rcvC c j) 0 ()))
    ∗ bigSep Finset.univ fun i => bigSep Finset.univ fun r : Fin 4 => dutyTok (ER (F := F)) (wtC c i) r.val ())

theorem toks_eq : bigSep allToks (fun x => (dutyTok ER x.1 x.2.1 x.2.2 : sProp 𝕄)) = bigSep Finset.univ fun c : Dev nD => ownToks (F := F) c := by
  unfold allToks; rw [bigSep_map, bigSep_univ_prod]
  refine bigSep_congr fun c _ => ?_
  unfold ownToks
  rw [BI.bigSep_univ_sum, BI.bigSep_univ_sum, BI.bigSep_univ_sum, bigSep_univ_prod,
    show (Finset.univ : Finset (Fin 1)) = {0} from rfl, BI.bigSep_singleton]
  rfl

/-- The barrier's and the arrivals' tokens, each handed to the partner. -/
theorem toks_around : (bigSep Finset.univ fun c : Dev nD => ownToks (F := F) c) ⊢ bigSep Finset.univ fun c : Dev nD => toks (F := F) c := by
  unfold ownToks toks
  rw [bigSep_sep', bigSep_sep', bigSep_sep', bigSep_sep', bigSep_sep', bigSep_sep',
    bigSep_univ_equiv swap (fun c : Dev nD => (dutyTok (ER (F := F)) (barC c) 0 () : sProp 𝕄)),
    bigSep_univ_equiv swap (fun c : Dev nD => (bigSep Finset.univ fun j => dutyTok (ER (F := F)) (rcvC c j) 0 () : sProp 𝕄))]
  show iprop(((bigSep Finset.univ fun c : Dev nD => dutyTok (ER (F := F)) (barC (peer c)) 0 ()) ∗ _ ∗ bigSep Finset.univ fun c : Dev nD => bigSep Finset.univ fun j => dutyTok (ER (F := F)) (rcvC (peer c) j) 0 ()) ∗ _) ⊢ _
  iintro ⟨⟨H1, H2, H3⟩, H4⟩
  isplitl [H1]; · iexact H1
  isplitl [H2]; · iexact H2
  isplitl [H3]; · iexact H3
  iexact H4

/-! ### The credit each device is launched with -/

/-- The cell payment a goes to, on its device. -/
def psem (a : Fin 9) : SemLoc sig := if h : a.val < 8 then .dma (rcvS ⟨7 - a.val, by omega⟩) else .reg barrier0
theorem psem_inj : Function.Injective psem := by decide
theorem payee_eq (d : Dev nD) (a : Fin 9) : payee d a.val = ((peer d : Thread nD τ), psem a) := by
  unfold payee psem; split <;> rfl

theorem owed_at : ∀ (k : ℕ) (hk : k ≤ 9) (d c : Dev nD) (a : Fin 9),
    owed d k ((c : Thread nD τ), psem a) () = if d = peer c ∧ a.val < k then payAmt a.val else 0
  | 0, _, d, c, a => (if_neg (fun h => absurd h.2 (Nat.not_lt_zero _))).symm
  | k + 1, hk, d, c, a => by
    show (owed d k + tallyAt (payee d k) () (payAmt k)) ((c : Thread nD τ), psem a) () = _
    rw [Pi.add_apply, Finsupp.add_apply, owed_at k (by omega) d c a, tallyAt_apply, payee_eq d ⟨k, by omega⟩]
    by_cases hd : d = peer c
    · subst hd
      rw [peer_peer]
      by_cases ha : a.val = k
      · subst ha
        rw [if_neg (fun h => Nat.lt_irrefl _ h.2), if_pos ⟨rfl, rfl⟩, if_pos ⟨rfl, Nat.lt_succ_self a.val⟩, Nat.zero_add]
      · rw [if_neg (c := (((c : Thread nD τ), psem a) = ((c : Thread nD τ), psem ⟨k, by omega⟩) ∧ () = ()))
          (fun h => ha (congrArg Fin.val (psem_inj (congrArg Prod.snd h.1)))), Nat.add_zero]
        refine if_congr ⟨fun h => ⟨h.1, by omega⟩, fun h => ⟨h.1, by omega⟩⟩ rfl rfl
    · rw [if_neg (fun h => hd h.1), if_neg (fun h => hd ?_), if_neg (fun h => hd h.1)]
      have := congrArg (fun g : GSem nD τ sig => g.1.1) h.1
      rw [← peer_peer d]; exact congrArg peer this.symm

theorem launch_at (c : Dev nD) (a : Fin 9) :
    tallyOn ((c : Thread nD τ), psem a) (launchCredit (Pipeline.owing fun c => owed c 9) 0 ((c : Thread nD τ), psem a))
      = (tallyAt ((c : Thread nD τ), psem a) () (payAmt a.val) : CellTallies nD τ sig Unit) := by
  unfold tallyAt; refine congrArg _ (Finsupp.ext fun u => ?_); cases u
  rw [Pipeline.launchCredit_owing, Finsupp.single_eq_same, Finset.sum_congr rfl fun d _ => owed_at 9 (le_refl 9) d c a]
  rw [Finset.sum_congr rfl fun d _ => if_congr (Q := d = peer c) ⟨fun h => h.1, fun h => ⟨h, a.isLt⟩⟩ rfl rfl,
    Finset.sum_ite_eq' Finset.univ (peer c) fun _ => payAmt a.val, if_pos (Finset.mem_univ _)]

theorem credits (c : Dev nD) : (Pipeline.launchCred (fun c => owed c 9) c : sProp 𝕄) ⊢ creds (F := F) c := by
  unfold Pipeline.launchCred
  refine (bigSep_subset (t := Finset.univ.map ⟨psem, psem_inj⟩) (Finset.subset_univ _)).trans ?_
  rw [bigSep_map, bigSep_congr (s := Finset.univ) fun a _ => show (cred (tallyOn ((c : Thread nD τ), (⟨psem, psem_inj⟩ : Fin 9 ↪ SemLoc sig) a)
      (launchCredit (Pipeline.owing fun c => owed c 9) 0 ((c : Thread nD τ), (⟨psem, psem_inj⟩ : Fin 9 ↪ SemLoc sig) a))) : sProp 𝕄) = _ from congrArg cred (launch_at c a),
    bigSep_univ_eq_bigSepL [0, 1, 2, 3, 4, 5, 6, 7, 8] (by decide) (by decide)]
  unfold creds
  rw [eight]
  show iprop(cred (tallyAt (rcvC c 7) () NC) ∗ cred (tallyAt (rcvC c 6) () NC) ∗ cred (tallyAt (rcvC c 5) () NC) ∗ cred (tallyAt (rcvC c 4) () NC)
    ∗ cred (tallyAt (rcvC c 3) () NC) ∗ cred (tallyAt (rcvC c 2) () NC) ∗ cred (tallyAt (rcvC c 1) () NC) ∗ cred (tallyAt (rcvC c 0) () NC)
    ∗ cred (tallyAt (barC c) () 1)) ⊢ _
  iintro ⟨H7, H6, H5, H4, H3, H2, H1, H0, HB⟩
  isplitl [HB]; · iexact HB
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-! ### The run -/

theorem bar_only : (unscopedSems0 c : sProp 𝕄) = semVal (barC c) 0 := by
  unfold unscopedSems0
  rw [show (Finset.univ.filter fun sm : SemLoc sig => ¬ sm.isScoped .tc) = {SemLoc.reg barrier0} from by decide, BI.bigSep_singleton]
theorem unscoped_bar : ∀ sm : SemLoc sig, sm.isScoped .tc = false → sm = .reg barrier0 := by decide

abbrev T₀ (c : Dev nD) : sProp 𝕄 := iprop(StableHlo.held (c : Thread nD τ) bufs (V₀ m c) ∗ R m c)
abbrev Tₙ (c : Dev nD) : sProp 𝕄 := iprop(StableHlo.held (c : Thread nD τ) bufs (W₂ m c) ∗ semVal (barC c) 0)

/-- What of a device's launch holdings is not the protocol's. -/
def bundle (c : Dev nD) : sProp 𝕄 :=
  iprop(StableHlo.held (c : Thread nD τ) bufs (V₀ m c) ∗ creds (F := F) c ∗ owes (c : Thread nD τ) (owed c 9) ∅ ∗ ∃ r, prngReg c r)

theorem T₀_intro (κ : GSem nD τ sig → ℕ) (c : Dev nD) : iprop(records m κ ∗ (linear (F := F) c ∗ bundle m c)) ⊢ T₀ m c := by
  unfold bundle T₀ R Tk OW
  iintro ⟨#HR, Hl, Hh, Hc, HO, Hp⟩
  isplitl [Hh]; · iexact Hh
  isplitr [HO]
  · isplitr [Hp]
    · isplitl [Hl]
      · iapply (ghost_intro m κ c)
        isplitr; · iexact HR
        iexact Hl
      iexact Hc
    iexact Hp
  · iexists ∅; iexact HO

theorem splits {A B : Dev nD → sProp 𝕄} : (bigSep Finset.univ fun c : Dev nD => iprop(A c ∗ B c)) ⊢ iprop(bigSep Finset.univ A ∗ bigSep Finset.univ B) :=
  Entails.of_eq (bigSep_sep' ..)

theorem joins {A B : Dev nD → sProp 𝕄} : iprop(bigSep Finset.univ A ∗ bigSep Finset.univ B) ⊢ (bigSep Finset.univ fun c : Dev nD => iprop(A c ∗ B c)) :=
  Entails.of_eq (bigSep_sep' ..).symm

theorem init :
    iprop((bigSep Finset.univ fun c : Dev nD => iprop(unscopedBufs c (fun b => m ((c : Thread nD τ).loc b)) ∗ unscopedSems0 c
          ∗ owes (c : Thread nD τ) (owed c 9) ∅ ∗ Pipeline.launchCred (fun c => owed c 9) c ∗ prngReg c (ρ c) ∗ G (F := F) c)) ∗ levAts L lv)
      ⊢ (|={Set.univ}=> bigSep Finset.univ (T₀ m) : sProp 𝕄) := by
  have hcore (c : Dev nD) : iprop(unscopedBufs c (fun b => m ((c : Thread nD τ).loc b)) ∗ unscopedSems0 c
        ∗ owes (c : Thread nD τ) (owed c 9) ∅ ∗ Pipeline.launchCred (fun c => owed c 9) c ∗ prngReg c (ρ c) ∗ G (F := F) c)
      ⊢ (iprop(bundle m c ∗ (semVal (barC c) 0 ∗ G (F := F) c)) : sProp 𝕄) := by
    rw [show unscopedBufs c (fun b => m ((c : Thread nD τ).loc b)) = StableHlo.held (c : Thread nD τ) bufs (V₀ m c) from Pipeline.unscopedBufs_held c (V₀ m c),
      bar_only]
    unfold bundle
    iintro ⟨Hh, Hus, HO, Hcr, Hp, HG⟩
    ihave Hc := (credits (F := F) c) $$ Hcr
    isplitl [Hh Hc HO Hp]
    · isplitl [Hh]; · iexact Hh
      isplitl [Hc]; · iexact Hc
      isplitl [HO]; · iexact HO
      iexists (ρ c); iexact Hp
    isplitl [Hus] <;> iassumption
  have hv : bigSep Finset.univ (fun c : Dev nD => (semVal (barC c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (barC c) 0 ∅ 0 : sProp 𝕄)) :=
    Entails.of_eq (bigSep_map (s := Finset.univ) barEmb (Φ := fun g : GSem nD τ sig => (atPos ER g 0 ∅ 0 : sProp 𝕄)))
  have hop : bigSep ownCells (fun g => (openTok ER g : sProp 𝕄))
      ⊢ bigSep Finset.univ (fun c : Dev nD => bigSep Finset.univ fun k : Own => (openTok ER ((c : Thread nD τ), osem k) : sProp 𝕄)) :=
    Entails.of_eq (by rw [bigSep_map, bigSep_univ_prod]; rfl)
  iintro ⟨H, -⟩
  ihave H' := (show (bigSep Finset.univ fun c : Dev nD => iprop(unscopedBufs c (fun b => m ((c : Thread nD τ).loc b)) ∗ unscopedSems0 c
          ∗ owes (c : Thread nD τ) (owed c 9) ∅ ∗ Pipeline.launchCred (fun c => owed c 9) c ∗ prngReg c (ρ c) ∗ G (F := F) c))
      ⊢ (bigSep Finset.univ fun c : Dev nD => iprop(bundle m c ∗ (semVal (barC c) 0 ∗ G (F := F) c)) : sProp 𝕄) from bigSep_mono fun c _ => hcore c) $$ H
  ihave H2 := splits $$ H'; icases H2 with ⟨HB, H3⟩
  ihave H4 := splits $$ H3; icases H4 with ⟨Hv, HG⟩
  ihave Hu := (show bigSep Finset.univ (G (F := F)) ⊢ BI.own (ER (launchOf barCells ownCells allToks)) from Entails.of_eq G_all) $$ HG
  imod (Rounds.fund_launch ER (sched (inp m)) cells_disjoint (fun g _ h => h) allToks) $$ [Hv Hu] with ⟨%κ, -, #Hinv, #Hr, Hat, Hopen, Htok⟩
  · isplitl [Hv]
    · iapply hv $$ Hv
    · iexact Hu
  imodintro
  iapply (bigSep_with_persistent (R := records m κ) (Φ := fun c => iprop(linear (F := F) c ∗ bundle m c)) fun c _ => T₀_intro m κ c)
  isplitr
  · unfold records
    isplitr; · iexact Hinv
    iexact Hr
  iapply joins
  isplitr [HB]
  · unfold linear
    iapply joins; isplitl [Hat]; · iapply hat $$ Hat
    iapply joins; isplitl [Hopen]; · iapply hop $$ Hopen
    iapply (toks_around (F := F))
    iapply (Entails.of_eq (toks_eq (F := F))) $$ Htok
  · iexact HB

/-- The buffers the claims speak of: the arguments and the result. -/
abbrev outs : Finset (DevRef τ sig) :=
  {Proc.devRef .tc main_arg0, Proc.devRef .tc main_arg1, Proc.devRef .tc main_arg2, Proc.devRef .tc main_arg3, Proc.devRef .tc main_v16}
theorem outs_sub : outs ⊆ bufs := by decide
theorem outs_held (W : Valuation τ sig (Elt F)) : (StableHlo.held (c : Thread nD τ) outs W : sProp 𝕄)
    = iprop(pt c main_arg0 (W main_arg0) ∗ pt c main_arg1 (W main_arg1) ∗ pt c main_arg2 (W main_arg2) ∗ pt c main_arg3 (W main_arg3)
      ∗ pt c main_v16 (W main_v16)) := by
  unfold StableHlo.held
  exact bigSep_eq_bigSepL_of_eq ([Proc.devRef .tc main_arg0, Proc.devRef .tc main_arg1, Proc.devRef .tc main_arg2, Proc.devRef .tc main_arg3,
    Proc.devRef .tc main_v16] : List (DevRef τ sig)) (by decide) (by decide) _

theorem W₂_keep (b : Ref sig .tc) (h16 : b ≠ main_v16) (hb : ∀ w, b ≠ Pipeline.arrRef spec0 w) : W₂ m c b = V m c b := by
  show StableHlo.after hostOps1 (W₁ m c) (Proc.devRef .tc b) = _
  rw [StableHlo.after_cons, StableHlo.after_nil, StableHlo.unary_result_ne _ _ _ _ _ _ h16]
  exact W₁_keep m c b hb

set_option backward.isDefEq.respectTransparency.types false in
/-- Every fair execution ends; the arguments are as they were, the result is what the call's block says, every counter is zero. -/
theorem run_main : θ_run (defs (F := F)) (onTc (τ := τ) (main (F := F))) ⟨m, fun _ => 0, ρ⟩
    (fun r => (∀ c : Dev nD, r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_arg3) = m ((c : Thread nD τ).loc main_arg3)
        ∧ r.2.mem ((c : Thread nD τ).loc main_v16) = W₂ m c main_v16) ∧ r.2.sem = fun _ => 0) :=
  Pipeline.θ_run_regions_kit_sems (pcfgs (F := F)) adm (pdats m) () cellOf_inj' EP defs₀ 𝒱₀ L lv m ρ main (segs m)
    (fun c Q => by rw [main_eq m c])
    (by simp only [segs, Pipeline.Seg.pipes_host, Pipeline.Seg.pipes_region, Pipeline.Seg.pipes_nil]; decide)
    (O₀ := fun c => owed c 9) (hL := L_of_ne) (G := G) (u₀ := u₀ (F := F))
    (hu₀ := by
      unfold u₀
      iintro Hu
      ihave H := (ownU_pair _ _) $$ Hu
      icases H with ⟨HP, HX⟩
      imodintro
      isplitl [HP]; · iexact HP
      rw [G_all]; iexact HX)
    (T₀ := T₀ m) (Tₙ := Tₙ m)
    (hch := by
      refine ⟨fun c => .rfl, fun c => .rfl, fun c => .rfl, fun c => reg_pre m c, fun c => reg_post m c, fun c => ?_⟩
      show iprop(StableHlo.held (c : Thread nD τ) bufs (W₂ m c) ∗ R' (F := F) c)
        ⊢ iprop(Tₙ m c ∗ ∃ W, owes (c : Thread nD τ) (0 : CellTallies nD τ sig Unit) W)
      unfold R' OW
      iintro ⟨Hh, Hb0, HO⟩
      isplitr [HO]
      · isplitl [Hh] <;> iassumption
      · iexact HO)
    (hinit := init m ρ)
    (QY := fun c s => (s.mem ((c : Thread nD τ).loc main_arg0) = W₂ m c main_arg0 ∧ s.mem ((c : Thread nD τ).loc main_arg1) = W₂ m c main_arg1
        ∧ s.mem ((c : Thread nD τ).loc main_arg2) = W₂ m c main_arg2 ∧ s.mem ((c : Thread nD τ).loc main_arg3) = W₂ m c main_arg3
        ∧ s.mem ((c : Thread nD τ).loc main_v16) = W₂ m c main_v16)
      ∧ s.sem (barC c) = 0)
    (hfin := fun c s' => by
      dsimp only [Tₙ]; rw [StableHlo.held_sub_split (c : Thread nD τ) outs_sub (W₂ m c), outs_held]
      unfold pt
      iintro ⟨⟨⟨⟨H0, H1, H2, H3, H16⟩, -⟩, Hb0⟩, HSI⟩
      icombine HSI H0 gives %h0
      icombine HSI H1 gives %h1
      icombine HSI H2 gives %h2
      icombine HSI H3 gives %h3
      icombine HSI H16 gives %h16
      icombine HSI Hb0 gives %hb
      imodintro
      isplitr
      · ipureintro
        exact ⟨⟨Buf.eq_of_forall_mem_univ h0, Buf.eq_of_forall_mem_univ h1, Buf.eq_of_forall_mem_univ h2, Buf.eq_of_forall_mem_univ h3,
          Buf.eq_of_forall_mem_univ h16⟩, by simpa using hb⟩
      iexact HSI)
    (hQ := fun s h hs => ⟨fun c => by
        obtain ⟨⟨h0, h1, h2, h3, h16⟩, -⟩ := h c
        exact ⟨h0.trans ((W₂_keep m c main_arg0 (by decide) (by decide)).trans (V_main_arg0 m c)),
          h1.trans ((W₂_keep m c main_arg1 (by decide) (by decide)).trans (V_main_arg1 m c)),
          h2.trans ((W₂_keep m c main_arg2 (by decide) (by decide)).trans (V_main_arg2 m c)),
          h3.trans ((W₂_keep m c main_arg3 (by decide) (by decide)).trans (V_main_arg3 m c)), h16⟩,
      sem_eq_zero hs fun c sm hsm => by
        obtain rfl := unscoped_bar sm hsm
        exact (h c).2⟩)

end Cert.KernelIdeal.Talk

end
-- ==== Proof.Frames.lean ====
/-
  The frames: both kernels and the reference run to the end, leave their arguments as they were and every semaphore at zero.
-/
module

public import proofs.«01_k».proof.Defs
public import proofs.«01_k».proof.Proof.Run
public import proofs.«01_k».proof.Proof.BitsRun
public import proofs.«01_k».proof.Proof.Gen.ReferenceIdeal.Run
public import Idealize.ShloMosaic.Adequacy
public import Idealize.ShloMosaic.Init

@[expose] public section

noncomputable section

namespace Cert.Proof

open Idealize.ShloMosaic Idealize.SL.Sem

attribute [local instance] Cert.Kernel.Gen.facts Cert.KernelIdeal.Gen.facts Cert.ReferenceIdeal.Gen.facts

/-- The printed kernel runs, leaves its arguments unchanged and every semaphore at zero. -/
theorem frame_kernel : Cert.quiescent_Kernel := fun m g _ =>
  (θ_run Cert.Kernel.defs _ _).mono (fun _ h => ⟨fun c => ⟨(h.1 c).1, (h.1 c).2.1, (h.1 c).2.2.1, (h.1 c).2.2.2.1⟩, h.2⟩)
    (Cert.Kernel.Talk.run_main (F := Bits) m g)

/-- The same of the idealized kernel. -/
theorem frame_ideal : Cert.quiescent_KernelIdeal := fun m g _ =>
  (θ_run Cert.KernelIdeal.defs _ _).mono (fun _ h => ⟨fun c => ⟨(h.1 c).1, (h.1 c).2.1, (h.1 c).2.2.1, (h.1 c).2.2.2.1⟩, h.2⟩)
    (Cert.KernelIdeal.Talk.run_main (F := Ideal) m g)

/-- The reference runs and leaves its arguments unchanged; it declares no semaphore. -/
theorem frame_reference : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

end Cert.Proof

end
-- ==== Proof.Terms.lean ====
/-
  The device's results, written with the five operations the kernel is made of: the one-hot of an expert's tokens,
  the picking of their rows, the expert itself, the spreading of its rows back, and the sum.
-/
module

public import proofs.«01_k».proof.Proof.Proto
public import Idealize.ShloMosaic.Lib.Pipeline.Value

@[expose] public section

set_option maxRecDepth 16384

noncomputable section

namespace Cert.KernelIdeal.Talk

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

attribute [local instance] Cert.KernelIdeal.Gen.facts

local notation "𝕄" => MT nD τ sig Unit (Elt F) ℕ UU ℕ

variable (c : Dev nD) (I : Inp F)

/-- The one-hot matrix of the expert w: row r marks the token of that expert whose rank is r. -/
def hot (w : BitVec 32) : FVec F S320x2048 .bf16 :=
  truncf .bf16 (sitofp .f32 (extui 32 (andi (broadcastTo S320x2048 (cmpi .eq (I.asg : IVec S1x2048 32) (broadcast S1x2048 w)) broadcasts_S1x2048_S320x2048)
    (cmpi .eq (broadcastTo S320x2048 (I.rnk : IVec S1x2048 32) broadcasts_S1x2048_S320x2048) rows)) natLt_1_32)) bitsLt_bf16_f32

/-- The rows of x the one-hot marks. -/
def pick (P : FVec F S320x2048 .bf16) (x : FVec F S2048x1024 .bf16) : FVec F S320x1024 .bf16 :=
  truncf .bf16 (matmul dot_S320x2048_S2048x1024_S320x1024_1_0_0_1_n_n none P x (constant S320x1024 .f32 0x00000000#32)) bitsLt_bf16_f32

/-- The expert: relu (x w1) w2. -/
def ffn (x : FVec F S320x1024 .bf16) (w1 : FVec F S1024x2048 .f32) (w2 : FVec F S2048x1024 .f32) : FVec F S320x1024 .bf16 :=
  truncf .bf16 (matmul dot_S320x2048_S2048x1024_S320x1024_1_0_0_1_n_n none
    (truncf .bf16 (maximumf (matmul dot_S320x1024_S1024x2048_S320x2048_1_0_0_1_n_n none x (truncf .bf16 w1 bitsLt_bf16_f32) (constant S320x2048 .f32 0x00000000#32))
      (broadcast S320x2048 (Scalar.ofBits .f32 0x00000000#32))) bitsLt_bf16_f32)
    (truncf .bf16 w2 bitsLt_bf16_f32) (constant S320x1024 .f32 0x00000000#32)) bitsLt_bf16_f32

/-- The rows y, each put back at the token its row of the one-hot marks. -/
def spread (P : FVec F S320x2048 .bf16) (y : FVec F S320x1024 .bf16) : FVec F S2048x1024 .bf16 :=
  truncf .bf16 (matmul dot_S320x2048_S320x1024_S2048x1024_0_0_1_1_n_n none P y (constant S2048x1024 .f32 0x00000000#32)) bitsLt_bf16_f32

/-- The words of the experts this device holds, and of those its peer holds. -/
def near (e : Fin 4) : BitVec 32 := Scalar.addi (mine c) (BitVec.ofNat 32 e.val)
def away (e : Fin 4) : BitVec 32 := Scalar.addi (other c) (BitVec.ofNat 32 e.val)

/-- A chunk as the matrix it holds, and back. -/
def flat (x : Vec F S1x320x1024 .bf16) : FVec F S320x1024 .bf16 := shapeCast S320x1024 x shapeCasts_S1x320x1024_S320x1024
def wrap (x : FVec F S320x1024 .bf16) : Vec F S1x320x1024 .bf16 := shapeCast S1x320x1024 x shapeCasts_S320x1024_S1x320x1024
theorem flat_wrap (x : FVec F S320x1024 .bf16) : flat (F := F) (wrap x) = x := by
  unfold flat wrap; rw [shapeCast_shapeCast]

theorem sent_eq (e : Fin 4) : sent c I e = wrap (pick (hot I (away c e)) I.xb) := by
  match e with
  | 0 => unfold sent k0_pay5 k0_pay2 k0_pay3 k0_pay4; simp only [shapeCast_self]; rfl
  | 1 => unfold sent k0_pay8 k0_pay6 k0_pay7 k0_pay2 k0_pay3 k0_pay4; simp only [shapeCast_self]; rfl
  | 2 => unfold sent k0_pay10 k0_pay9 k0_pay2 k0_pay3 k0_pay4; simp only [shapeCast_self]; rfl
  | 3 => unfold sent k0_pay11 k0_pay2 k0_pay3 k0_pay4; simp only [shapeCast_self]; rfl

theorem answer_eq (e : Fin 4) (x : Vec F S1x320x1024 .bf16) : answer I e x = wrap (ffn (flat (F := F) x) (w1At I e) (w2At I e)) := by
  match e with
  | 0 => rfl
  | 1 => rfl
  | 2 => rfl
  | 3 => rfl

/-- What the device's own expert e adds: its tokens' rows through it, at their places. -/
def homeTerm (e : Fin 4) : FVec F S2048x1024 .bf16 :=
  spread (hot I (near c e)) (ffn (pick (hot I (near c e)) I.xb) (w1At I e) (w2At I e))

theorem own1_eq : own1 c I = addf (broadcast S2048x1024 (Scalar.ofBits .bf16 0x0000#16)) (homeTerm c I 0) := by
  unfold own1 k0_pay17 k0_pay2 k0_pay3 k0_pay4; simp only [shapeCast_self]; rfl
theorem own2_eq : own2 c I = addf (own1 c I) (homeTerm c I 1) := by
  unfold own2 k0_pay23 k0_pay21 k0_pay22 k0_pay2 k0_pay3 k0_pay4; simp only [shapeCast_self]; rfl
theorem own3_eq : own3 c I = addf (own2 c I) (homeTerm c I 2) := by
  unfold own3 k0_pay28 k0_pay2 k0_pay3 k0_pay4; simp only [shapeCast_self]; rfl
theorem own4_eq : own4 c I = addf (own3 c I) (homeTerm c I 3) := by
  unfold own4 k0_pay34 k0_pay32 k0_pay33 k0_pay2 k0_pay3 k0_pay4; simp only [shapeCast_self]; rfl

/-- What the peer's answer for its expert e adds. -/
def awayTerm (r : Fin 4 → Vec F S1x320x1024 .bf16) (e : Fin 4) : FVec F S2048x1024 .bf16 := spread (hot I (away c e)) (flat (F := F) (r e))

theorem total1_eq (r : Fin 4 → Vec F S1x320x1024 .bf16) : total1 c I r = addf (own4 c I) (awayTerm c I r 0) := by
  unfold total1 k0_pay37 k0_pay2 k0_pay3; simp only [shapeCast_self]; rfl
theorem total2_eq (r : Fin 4 → Vec F S1x320x1024 .bf16) : total2 c I r = addf (total1 c I r) (awayTerm c I r 1) := by
  unfold total2 k0_pay38 k0_pay2 k0_pay3; simp only [shapeCast_self]; rfl
theorem total3_eq (r : Fin 4 → Vec F S1x320x1024 .bf16) : total3 c I r = addf (total2 c I r) (awayTerm c I r 2) := by
  unfold total3 k0_pay39 k0_pay2 k0_pay3; simp only [shapeCast_self]; rfl
theorem total4_eq (r : Fin 4 → Vec F S1x320x1024 .bf16) : total4 c I r = addf (total3 c I r) (awayTerm c I r 3) := by
  unfold total4 k0_pay1 k0_pay40 k0_pay41 k0_pay2 k0_pay3; simp only [shapeCast_self]; rfl

/-- The answer that device c gets for the peer's expert e. -/
theorem out_guest (J : Dev nD → Inp F) (e : Fin 4) :
    out J (peer c) ⟨e.val + 4, by omega⟩ = wrap (ffn (pick (hot (J c) (away c e)) (J c).xb) (w1At (J (peer c)) e) (w2At (J (peer c)) e)) := by
  unfold out
  rw [dif_neg (by show ¬(e.val + 4 < 4); omega), peer_peer]
  show answer (J (peer c)) ⟨e.val + 4 - 4, _⟩ (sent c (J c) ⟨e.val + 4 - 4, _⟩) = _
  have he : (⟨e.val + 4 - 4, by omega⟩ : Fin 4) = e := Fin.ext (by show e.val + 4 - 4 = e.val; omega)
  rw [he, answer_eq, sent_eq, flat_wrap]

/-- What the peer's expert e adds to device c's tokens. -/
def guestTerm (J : Dev nD → Inp F) (e : Fin 4) : FVec F S2048x1024 .bf16 :=
  spread (hot (J c) (away c e)) (ffn (pick (hot (J c) (away c e)) (J c).xb) (w1At (J (peer c)) e) (w2At (J (peer c)) e))

theorem awayTerm_eq (J : Dev nD → Inp F) (e : Fin 4) : awayTerm c (J c) (fun e => out J (peer c) ⟨e.val + 4, by omega⟩) e = guestTerm c J e := by
  unfold awayTerm guestTerm
  beta_reduce
  rw [out_guest, flat_wrap]

/-- The device's result: the eight experts' terms, in the kernel's order. -/
theorem result_eq (J : Dev nD → Inp F) : result J c =
    addf (addf (addf (addf (addf (addf (addf (addf (broadcast S2048x1024 (Scalar.ofBits .bf16 0x0000#16)) (homeTerm c (J c) 0)) (homeTerm c (J c) 1)) (homeTerm c (J c) 2))
      (homeTerm c (J c) 3)) (guestTerm c J 0)) (guestTerm c J 1)) (guestTerm c J 2)) (guestTerm c J 3) := by
  unfold result
  rw [total4_eq, total3_eq, total2_eq, total1_eq, own4_eq, own3_eq, own2_eq, own1_eq, awayTerm_eq, awayTerm_eq, awayTerm_eq, awayTerm_eq]

end Cert.KernelIdeal.Talk

end
-- ==== Proof.Expert.lean ====
/-
  What the kernel's operations are over the reals, entry by entry, and that an expert's term is its row of the
  reference for the expert's tokens and zero for the others.
-/
module

public import proofs.«01_k».proof.Proof.Terms
public import Idealize.ShloMosaic.PureOps.Ideal
public import Idealize.ShloMosaic.PureOps.Ideal.Laws
public import Idealize.ShloMosaic.Lib.MatmulPlain
public import Idealize.ShloMosaic.Lib.ValueLayout
public import Idealize.ShloMosaic.Lib.Affine

@[expose] public section

set_option maxRecDepth 16384

noncomputable section

namespace Cert.KernelIdeal.Talk

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

attribute [local instance] Cert.KernelIdeal.Gen.facts

local notation "𝕄" => MT nD τ sig Unit (Elt F) ℕ UU ℕ

open Idealize.ShloMosaic.ValueIdx

/-! ## Sums -/

/-- One row through an expert, entry d: relu (x w1) w2. -/
def expert {K M N : ℕ} (x : Fin K → EReal) (w1 : Fin K → Fin M → EReal) (w2 : Fin M → Fin N → EReal) (d : Fin N) : EReal :=
  ∑ f, max (∑ k, x k * w1 k f) 0 * w2 f d

/-- A row of indicators with one 1 picks that entry. -/
theorem sum_pick {n : ℕ} (p : Fin n → Prop) [DecidablePred p] (i : Fin n) (hi : p i) (hu : ∀ t, p t → t = i) (g : Fin n → EReal) :
    ∑ t, (if p t then (1 : EReal) else 0) * g t = g i := by
  rw [Finset.sum_eq_single i]
  · rw [if_pos hi, one_mul]
  · intro t _ ht; rw [if_neg fun h => ht (hu t h), zero_mul]
  · intro h; exact absurd (Finset.mem_univ i) h

/-- Rows sent to an expert by an indicator and brought back by it: a token that is in one row alone, and alone in it, gets the
    expert's result on its own row. -/
theorem sum_there_and_back {R T K M N : ℕ} (p : Fin R → Fin T → Prop) [∀ r, DecidablePred (p r)] (x : Fin T → Fin K → EReal)
    (w1 : Fin K → Fin M → EReal) (w2 : Fin M → Fin N → EReal) (i : Fin T) (d : Fin N) (r₀ : Fin R) (h₀ : p r₀ i)
    (hr : ∀ r, p r i → r = r₀) (ht : ∀ t, p r₀ t → t = i) :
    ∑ r, (if p r i then (1 : EReal) else 0) * expert (fun k => ∑ t, (if p r t then (1 : EReal) else 0) * x t k) w1 w2 d = expert (x i) w1 w2 d := by
  rw [sum_pick (fun r => p r i) r₀ h₀ hr]
  exact congrArg (fun y => expert y w1 w2 d) (funext fun k => sum_pick (fun t => p r₀ t) i h₀ ht fun t => x t k)

/-- A token in no row gets nothing. -/
theorem sum_absent {R T : ℕ} (p : Fin R → Fin T → Prop) [∀ r, DecidablePred (p r)] (g : Fin R → EReal) (i : Fin T) (h : ∀ r, ¬ p r i) :
    ∑ r, (if p r i then (1 : EReal) else 0) * g r = 0 :=
  Finset.sum_eq_zero fun r _ => by rw [if_neg (h r), zero_mul]

/-! ## The operations -/

theorem zero_f32 : Ideal.ofBits .f32 0x00000000#32 = 0 := Ideal.ofBits_zero_f32
theorem zero_bf16 : Ideal.ofBits .bf16 0x0000#16 = 0 := by simp [Ideal.ofBits, Ideal.ieee]

/-- The product over the columns, [M,K] × [K,N], with a zero accumulator. -/
theorem pick_at (P : FVec Ideal S320x2048 .bf16) (x : FVec Ideal S2048x1024 .bf16) (r : Fin 320) (k : Fin 1024) :
    pick P x (ix2 r k) = ∑ t : Fin 2048, P (ix2 r t) * x (ix2 t k) := by
  refine (Ideal.matmul_plain_apply (M := 320) (K := 2048) (N := 1024) none P x (constant S320x1024 .f32 0x00000000#32) r k).trans ?_
  show Ideal.ofBits .f32 0x00000000#32 + _ = _
  rw [zero_f32, zero_add]

theorem ffn_at (x : FVec Ideal S320x1024 .bf16) (w1 : FVec Ideal S1024x2048 .f32) (w2 : FVec Ideal S2048x1024 .f32) (r : Fin 320) (d : Fin 1024) :
    ffn x w1 w2 (ix2 r d) = expert (fun k => x (ix2 r k)) (fun k f => w1 (ix2 k f)) (fun f d => w2 (ix2 f d)) d := by
  refine (Ideal.matmul_plain_apply (M := 320) (K := 2048) (N := 1024) none _ _ (constant S320x1024 .f32 0x00000000#32) r d).trans ?_
  show Ideal.ofBits .f32 0x00000000#32 + _ = _
  rw [zero_f32, zero_add]
  refine Finset.sum_congr rfl fun f _ => ?_
  refine congrArg (· * w2 (ix2 f d)) ?_
  refine (congrArg (fun v => max v (Ideal.ofBits .f32 0x00000000#32))
    (Ideal.matmul_plain_apply (M := 320) (K := 1024) (N := 2048) none x w1 (constant S320x2048 .f32 0x00000000#32) r f)).trans ?_
  show max (Ideal.ofBits .f32 0x00000000#32 + _) (Ideal.ofBits .f32 0x00000000#32) = _
  rw [zero_f32, zero_add]

theorem spread_at (P : FVec Ideal S320x2048 .bf16) (y : FVec Ideal S320x1024 .bf16) (i : Fin 2048) (d : Fin 1024) :
    spread P y (ix2 i d) = ∑ r : Fin 320, P (ix2 r i) * y (ix2 r d) := by
  let dn : DotDims S320x2048 S320x1024 S2048x1024 := dot_S320x2048_S320x1024_S2048x1024_0_0_1_1_n_n
  have hsum : FloatOps.matmul dn none P y (constant S2048x1024 .f32 0x00000000#32) (ix2 i d)
      = constant (F := Ideal) S2048x1024 .f32 0x00000000#32 (ix2 i d) + ∑ r : Fin 320, P (ix2 r i) * y (ix2 r d) := by
    rw [Ideal.matmul_apply, ← Equiv.sum_comp (contrEquiv1 dn 320 rfl rfl).symm]
    refine congrArg (_ + ·) (Finset.sum_congr rfl fun k _ => ?_)
    have hk := contrEquiv1_symm_val dn 320 rfl rfl k
    have el : dn.lhsIdx (ix2 i d) ((contrEquiv1 dn 320 rfl rfl).symm k) = ix2 k i := by
      funext a; apply Fin.ext
      match a with
      | ⟨0, _⟩ => exact hk
      | ⟨1, _⟩ => rfl
    have er : dn.rhsIdx (ix2 i d) ((contrEquiv1 dn 320 rfl rfl).symm k) = ix2 k d := by
      funext a; apply Fin.ext
      match a with
      | ⟨0, _⟩ => exact hk
      | ⟨1, _⟩ => rfl
    rw [el, er]
  refine hsum.trans ?_
  show Ideal.ofBits .f32 0x00000000#32 + _ = _
  rw [zero_f32, zero_add]

/-- Entry (r, t) of the one-hot of the word w: 1 where token t goes to w and has rank r. -/
theorem hot_at (I : Inp Ideal) (w : BitVec 32) (r : Fin 320) (t : Fin 2048) :
    hot I w (ix2 r t) = if (I.asg : IVec S1x2048 32) (ix2 0 t) = w ∧ (I.rnk : IVec S1x2048 32) (ix2 0 t) = BitVec.ofNat 32 r.val then (1 : EReal) else 0 := by
  have h : hot I w (ix2 r t) = (((IntOp.andi (IntOp.cmpi .eq ((I.asg : IVec S1x2048 32) (ix2 0 t)) w)
      (IntOp.cmpi .eq ((I.rnk : IVec S1x2048 32) (ix2 0 t)) (BitVec.ofNat 32 r.val))).setWidth 32).toInt : ℝ) := by
    show ((((IntOp.andi (broadcastTo S320x2048 (cmpi .eq (I.asg : IVec S1x2048 32) (broadcast S1x2048 w)) broadcasts_S1x2048_S320x2048 (ix2 r t))
      (IntOp.cmpi .eq (broadcastTo S320x2048 (I.rnk : IVec S1x2048 32) broadcasts_S1x2048_S320x2048 (ix2 r t)) (rows (ix2 r t)))).setWidth 32).toInt : ℝ) : EReal) = _
    have hr : rows (ix2 r t) = BitVec.ofNat 32 r.val := by
      show BitVec.ofNat 32 (0 * 320 + r.val) = _
      rw [Nat.zero_mul, Nat.zero_add]
    rw [broadcastTo_1b_ab_apply (a := 320) (b := 2048), broadcastTo_1b_ab_apply (a := 320) (b := 2048), hr]
    rfl
  rw [h]
  split
  · next hb => rw [IntOp.cmpi_eq.2 hb.1, IntOp.cmpi_eq.2 hb.2]; simp [IntOp.andi]
  · next hb =>
    have hz : IntOp.andi (IntOp.cmpi .eq ((I.asg : IVec S1x2048 32) (ix2 0 t)) w) (IntOp.cmpi .eq ((I.rnk : IVec S1x2048 32) (ix2 0 t)) (BitVec.ofNat 32 r.val)) = 0#1 := by
      by_contra hne
      have h1 : ∀ b : BitVec 1, b ≠ 0#1 → b = 1#1 := by decide
      have := IntOp.andi_eq_one.1 (h1 _ hne)
      exact hb ⟨IntOp.cmpi_eq.1 this.1, IntOp.cmpi_eq.1 this.2⟩
    rw [hz]; simp

/-- The term of the word w's expert at (i, d). -/
theorem term_at (I : Inp Ideal) (w : BitVec 32) (w1 : FVec Ideal S1024x2048 .f32) (w2 : FVec Ideal S2048x1024 .f32) (i : Fin 2048) (d : Fin 1024) :
    spread (hot I w) (ffn (pick (hot I w) I.xb) w1 w2) (ix2 i d)
      = ∑ r : Fin 320, (if (I.asg : IVec S1x2048 32) (ix2 0 i) = w ∧ (I.rnk : IVec S1x2048 32) (ix2 0 i) = BitVec.ofNat 32 r.val then (1 : EReal) else 0)
        * expert (fun k => ∑ t : Fin 2048, (if (I.asg : IVec S1x2048 32) (ix2 0 t) = w ∧ (I.rnk : IVec S1x2048 32) (ix2 0 t) = BitVec.ofNat 32 r.val then (1 : EReal) else 0)
          * (I.xb : FVec Ideal S2048x1024 .bf16) (ix2 t k)) (fun k f => w1 (ix2 k f)) (fun f d => w2 (ix2 f d)) d := by
  rw [spread_at]
  refine Finset.sum_congr rfl fun r _ => ?_
  rw [hot_at, ffn_at]
  refine congrArg (fun x => _ * expert x _ _ d) (funext fun k => ?_)
  rw [pick_at]
  exact Finset.sum_congr rfl fun t _ => by rw [hot_at]

end Cert.KernelIdeal.Talk

end
-- ==== Proof.Route.lean ====
/-
  The routing of tokens: a token's place among those of its expert, counted in words, and what the capacity says of it.
-/
module

public import proofs.«01_k».proof.Proof.Gen.KernelIdeal
public import Idealize.ShloMosaic.Lib.Routing.Ops
public import Idealize.ShloMosaic.Lib.ReduceAll
public import Idealize.ShloMosaic.Lib.Affine

@[expose] public section

set_option maxRecDepth 16384

noncomputable section

namespace Cert.Route

open Idealize.ShloMosaic Idealize.ShloMosaic.ValueIdx Idealize.ShloMosaic.Routing
open Cert.KernelIdeal Cert.KernelIdeal.Gen

attribute [local instance] Cert.KernelIdeal.Gen.facts

/-- In a column of N positions, position n is row n. -/
theorem column_symm {N : ℕ} (n : Fin (⟨2, ![N, 1]⟩ : Shape).numel) :
    ((⟨2, ![N, 1]⟩ : Shape).rowMajor.symm n 0).val = n.val ∧ ((⟨2, ![N, 1]⟩ : Shape).rowMajor.symm n 1).val = 0 := by
  have h1 : ((⟨2, ![N, 1]⟩ : Shape).rowMajor.symm n 1).val < 1 := ((⟨2, ![N, 1]⟩ : Shape).rowMajor.symm n 1).isLt
  have h := Shape.rowMajor_val_two ((⟨2, ![N, 1]⟩ : Shape).rowMajor.symm n)
  rw [Equiv.apply_symm_apply] at h
  change n.val = ((⟨2, ![N, 1]⟩ : Shape).rowMajor.symm n 0).val * 1 + ((⟨2, ![N, 1]⟩ : Shape).rowMajor.symm n 1).val at h
  omega

theorem column_numel (N : ℕ) : (⟨2, ![N, 1]⟩ : Shape).numel = N := by
  show ∏ a : Fin 2, (![N, 1] : Fin 2 → ℕ) a = N
  rw [Fin.prod_univ_two]
  show N * 1 = N
  exact Nat.mul_one N

/-- A running sum down the rows: where column q of the matrix holds f 0, f 1, …, row j of the result holds f 0 + … + f j. -/
theorem cumsum_rows {N k M : ℕ} (hN : k + 1 = N) (x : IVec (shape2 N M) 32) (f : ℕ → ℕ) (q : Fin M)
    (hx : ∀ i : Fin N, x (ix2 i q) = BitVec.ofNat 32 (f i.val)) (init : IVec shape0 32) (hinit : init ix0 = 0#32)
    (h : (shape2 N M).ReduceWindows (![N, 1] : Fin 2 → ℕ) ![1, 1] ![k, 0] ![0, 0] (shape2 N M)) (hu : 0 < shape0.numel) (j : Fin N) :
    Host.reduceWindow IntOp.addi ![N, 1] ![1, 1] ![k, 0] ![0, 0] x init h hu (ix2 j q) = BitVec.ofNat 32 ((List.range (j.val + 1)).map f).sum := by
  subst hN
  have hv : init (Shape.Idx.first hu) = BitVec.ofNat 32 0 := (congrArg init (eq_ix0 _)).trans hinit
  have hj := j.isLt
  have hq := q.isLt
  unfold Host.reduceWindow
  refine (foldl_addi_ofNat _ _ (fun n => if k ≤ j.val + n.val then f (j.val + n.val - k) else 0) (fun n _ => ?_) _ 0 hv).trans ?_
  · obtain ⟨h0, h1⟩ := column_symm (N := k + 1) n
    have hn : n.val < k + 1 := (n.cast (column_numel _)).isLt
    have key : ∀ a : Fin 2, ((![k, 0] : Fin 2 → ℕ) a ≤ (ix2 j q a).val * (![1, 1] : Fin 2 → ℕ) a + ((⟨2, ![k + 1, 1]⟩ : Shape).rowMajor.symm n a).val
          ∧ (ix2 j q a).val * (![1, 1] : Fin 2 → ℕ) a + ((⟨2, ![k + 1, 1]⟩ : Shape).rowMajor.symm n a).val - (![k, 0] : Fin 2 → ℕ) a < (![k + 1, M] : Fin 2 → ℕ) a)
        ↔ (a = 0 → k ≤ j.val + n.val) := fun a => by
      match a with
      | ⟨0, _⟩ =>
        show (k ≤ j.val * 1 + ((⟨2, ![k + 1, 1]⟩ : Shape).rowMajor.symm n 0).val
          ∧ j.val * 1 + ((⟨2, ![k + 1, 1]⟩ : Shape).rowMajor.symm n 0).val - k < k + 1) ↔ ((0 : Fin 2) = 0 → _)
        rw [h0]; simp only [forall_true_left]; omega
      | ⟨1, _⟩ =>
        show (0 ≤ q.val * 1 + ((⟨2, ![k + 1, 1]⟩ : Shape).rowMajor.symm n 1).val
          ∧ q.val * 1 + ((⟨2, ![k + 1, 1]⟩ : Shape).rowMajor.symm n 1).val - 0 < M) ↔ ((1 : Fin 2) = 0 → _)
        rw [h1]; exact ⟨fun _ h => absurd h (by decide), fun _ => by omega⟩
    dsimp only
    split
    · next hin =>
      have hk : k ≤ j.val + n.val := (key 0).1 (hin 0) rfl
      rw [if_pos hk]
      refine (congrArg x (funext fun a => Fin.ext ?_)).trans (hx ⟨j.val + n.val - k, by omega⟩)
      match a with
      | ⟨0, _⟩ =>
        show j.val * 1 + ((⟨2, ![k + 1, 1]⟩ : Shape).rowMajor.symm n 0).val - k = j.val + n.val - k
        rw [h0, Nat.mul_one]
      | ⟨1, _⟩ =>
        show q.val * 1 + ((⟨2, ![k + 1, 1]⟩ : Shape).rowMajor.symm n 1).val - 0 = q.val
        rw [h1]; omega
    · next hin =>
      rw [if_neg fun hle => hin fun a => (key a).2 fun _ => hle]
      exact hv
  · rw [Nat.zero_add, map_finRange_val _ (fun w => if k ≤ j.val + w then f (j.val + w - k) else 0)]
    exact congrArg (BitVec.ofNat 32) ((congrArg (fun M => ((List.range M).map fun w => if k ≤ j.val + w then f (j.val + w - k) else 0).sum)
      (column_numel (k + 1))).trans (sum_window f k j.val (by omega)))

/-- A sum of words all zero but one is that one. -/
theorem fold_one {ι : Type} [DecidableEq ι] (S : Finset ι) (f : ι → BitVec 32) (a : ι) (ha : a ∈ S) (hf : ∀ b ∈ S, b ≠ a → f b = 0#32) :
    S.fold IntOp.addi 0#32 f = f a := by
  have hz : ∀ T : Finset ι, (∀ b ∈ T, f b = 0#32) → T.fold IntOp.addi 0#32 f = 0#32 := fun T => by
    induction T using Finset.cons_induction with
    | empty => intro _; rfl
    | cons b T hb ih =>
      intro h
      rw [Finset.fold_cons, h b (Finset.mem_cons_self ..), ih fun c hc => h c (Finset.mem_cons_of_mem hc)]
      rfl
  rw [← Finset.insert_erase ha, Finset.fold_insert (Finset.notMem_erase a S),
    hz _ fun b hb => hf b (Finset.mem_of_mem_erase hb) (Finset.ne_of_mem_erase hb)]
  exact BitVec.add_zero _

/-- The sum along a row of a matrix whose row i is zero but at column q. -/
theorem reduce_row {n m : ℕ} (x : IVec (shape2 n m) 32) (h : (shape2 n m).ReducesTo [1] (shape1 n)) (hu : 0 < shape0.numel) (i : Fin n) (q : Fin m)
    (hx : ∀ p : Fin m, p ≠ q → x (ix2 i p) = 0#32) :
    Host.reduce IntOp.addi x (constantI shape0 32 0#32) h hu (ix1 i) = x (ix2 i q) := by
  classical
  rw [Host.reduce_eq_fold]
  have hdrop : ∀ p : (shape2 n m).Idx, h.drop p = ix1 i ↔ p 0 = i := fun p => by
    have hv : (h.drop p 0 : ℕ) = p 0 := Shape.ReducesTo.drop_apply_val h p 0
    constructor
    · intro e; rw [e] at hv; exact Fin.ext hv.symm
    · intro e; funext b; have hb : b = 0 := Subsingleton.elim _ _; subst hb; exact Fin.ext (by rw [hv, e]; rfl)
  refine fold_one _ _ (ix2 i q) (Finset.mem_filter.2 ⟨Finset.mem_univ _, (hdrop _).2 rfl⟩) fun p hp hne => ?_
  have h0 : p 0 = i := (hdrop p).1 (Finset.mem_filter.1 hp).2
  have hp' : p = ix2 i (p 1) := by rw [← h0]; exact eq_ix2 p
  rw [hp']
  refine hx (p 1) fun e => hne ?_
  rw [hp']; exact congrArg (ix2 i) e

/-! ## Places -/

/-- Token t is assigned the expert named by the word w. -/
def goes (A : IVec S2048 32) (w : BitVec 32) (t : ℕ) : Prop := ∃ h : t < 2048, A (ix1 ⟨t, h⟩) = w
instance (A : IVec S2048 32) (w : BitVec 32) : DecidablePred (goes A w) := fun t => by unfold goes; infer_instance

/-- How many tokens before t go to the expert w. -/
def place (A : IVec S2048 32) (w : BitVec 32) (t : ℕ) : ℕ := Nat.count (goes A w) t

theorem goes_iff (A : IVec S2048 32) (w : BitVec 32) (t : Fin 2048) : goes A w t.val ↔ A (ix1 t) = w := ⟨fun ⟨_, h⟩ => h, fun h => ⟨t.isLt, h⟩⟩

/-- The places as the program computes them. -/
def onehot (A : IVec S2048 32) : IVec S2048x8 32 :=
  extui 32 (cmpi .eq (broadcastInDim S2048x8 ![0, 1] bcast_S2048x1_S2048x8_0_1 (broadcastInDim S2048x1 ![0] bcast_S2048_S2048x1_0 A))
    (broadcastInDim S2048x8 ![0, 1] bcast_S1x8_S2048x8_0_1 (broadcastInDim S1x8 ![1] bcast_S8_S1x8_1 (iotaInDim S8 32 0)))) natLt_1_32
def running (A : IVec S2048 32) : IVec S2048x8 32 :=
  Host.reduceWindow IntOp.addi ![2048, 1] ![1, 1] ![2047, 0] ![0, 0] (onehot A) (broadcastInDim S_ ![] bcast_S_S_ (constantI S_ 32 0#32))
    reduceWindows_S2048x8_S2048x8_w2048s1p2047_0_w1s1p0_0 h_S_
def ranks (A : IVec S2048 32) : IVec S2048 32 :=
  Host.reduce IntOp.addi (muli (subi (running A) (onehot A)) (onehot A)) (constantI S_ 32 0#32) reducesTo_S2048x8_S2048_d1 h_S_

theorem onehot_at (A : IVec S2048 32) (t : Fin 2048) (q : Fin 8) :
    onehot A (ix2 t q) = BitVec.ofNat 32 (if goes A (BitVec.ofNat 32 q.val) t.val then 1 else 0) := by
  unfold onehot
  show (IntOp.cmpi .eq (broadcastInDim S2048x8 ![0, 1] bcast_S2048x1_S2048x8_0_1 (broadcastInDim S2048x1 ![0] bcast_S2048_S2048x1_0 A) (ix2 t q))
    (broadcastInDim S2048x8 ![0, 1] bcast_S1x8_S2048x8_0_1 (broadcastInDim S1x8 ![1] bcast_S8_S1x8_1 (iotaInDim S8 32 0)) (ix2 t q))).setWidth 32 = _
  rw [bcRows (n := 2048) (m := 8), bcCols (n := 2048) (m := 8)]
  show (IntOp.cmpi .eq (A (ix1 t)) (BitVec.ofNat 32 q.val)).setWidth 32 = _
  by_cases h : A (ix1 t) = BitVec.ofNat 32 q.val
  · rw [if_pos ((goes_iff A _ t).2 h), h]; simp [IntOp.cmpi]
  · rw [if_neg (fun g => h ((goes_iff A _ t).1 g))]
    show (BitVec.ofBool (A (ix1 t) == BitVec.ofNat 32 q.val)).setWidth 32 = _
    rw [beq_eq_false_iff_ne.2 h]; rfl

theorem running_at (A : IVec S2048 32) (t : Fin 2048) (q : Fin 8) :
    running A (ix2 t q) = BitVec.ofNat 32 (place A (BitVec.ofNat 32 q.val) (t.val + 1)) := by
  unfold running place
  rw [cumsum_rows (N := 2048) (k := 2047) (M := 8) rfl (onehot A) (fun n => if goes A (BitVec.ofNat 32 q.val) n then 1 else 0) q
    (fun i => onehot_at A i q) _ rfl _ _ t, sum_map_ite]

/-- The rank of a token that goes to an expert e is the number of earlier tokens that do. -/
theorem ranks_at (A : IVec S2048 32) (t : Fin 2048) (e : ℕ) (he : e < 8) (ht : A (ix1 t) = BitVec.ofNat 32 e) :
    ranks A (ix1 t) = BitVec.ofNat 32 (place A (BitVec.ofNat 32 e) t.val) := by
  unfold ranks
  have hz : ∀ p : Fin 8, p ≠ ⟨e, he⟩ → muli (subi (running A) (onehot A)) (onehot A) (ix2 t p) = 0#32 := fun p hp => by
    show IntOp.muli _ (onehot A (ix2 t p)) = _
    rw [onehot_at, if_neg fun g => hp ?_]
    · exact BitVec.mul_zero
    · have h := ((goes_iff A _ t).1 g).symm.trans ht
      have h' := congrArg BitVec.toNat h
      rw [BitVec.toNat_ofNat, BitVec.toNat_ofNat, Nat.mod_eq_of_lt (by have := p.isLt; omega), Nat.mod_eq_of_lt (by omega)] at h'
      exact Fin.ext h'
  rw [reduce_row (n := 2048) (m := 8) _ _ _ t ⟨e, he⟩ hz]
  show IntOp.muli (IntOp.subi (running A (ix2 t ⟨e, he⟩)) (onehot A (ix2 t ⟨e, he⟩))) (onehot A (ix2 t ⟨e, he⟩)) = _
  have hg : goes A (BitVec.ofNat 32 e) t.val := (goes_iff A _ t).2 ht
  rw [onehot_at, if_pos hg, running_at]
  unfold place
  rw [Nat.count_succ, if_pos hg]
  show (BitVec.ofNat 32 (_ + 1) - 1#32) * 1#32 = _
  rw [BitVec.mul_one, BitVec.ofNat_add]
  exact BitVec.add_sub_cancel _ _

/-- No expert is assigned more than 320 tokens. -/
def Fits (A : IVec S2048 32) : Prop := ∀ e : Fin 8, place A (BitVec.ofNat 32 e.val) 2048 ≤ 320

/-- Two tokens of one expert with the same place are the same token. -/
theorem place_inj (A : IVec S2048 32) (w : BitVec 32) (t u : Fin 2048) (ht : A (ix1 t) = w) (hu : A (ix1 u) = w)
    (h : place A w t.val = place A w u.val) : t = u :=
  Fin.ext (Nat.count_injective ((goes_iff A w t).2 ht) ((goes_iff A w u).2 hu) h)

/-- A token's place is below the count of its expert's tokens. -/
theorem place_lt (A : IVec S2048 32) (w : BitVec 32) (t : Fin 2048) (ht : A (ix1 t) = w) : place A w t.val < place A w 2048 :=
  Nat.count_strict_mono ((goes_iff A w t).2 ht) t.isLt

end Cert.Route

end
-- ==== Proof.Fits.lean ====
/-
  The capacity, as the claim states it, read back: no expert has more than 320 of a device's tokens.
-/
module

public import proofs.«01_k».proof.Proof.Route
public import proofs.«01_k».proof.Pre_capacity_KernelIdeal
public import proofs.«01_k».proof.Pre_capacity_ReferenceIdeal
public import Idealize.ShloMosaic.Lib.StableHlo.Predicate
public import Idealize.ShloMosaic.Lib.Routing.Count
public import Idealize.ShloMosaic.PureOps.Ideal

@[expose] public section

set_option maxRecDepth 16384

noncomputable section

namespace Cert.Route

open Idealize.ShloMosaic Idealize.ShloMosaic.ValueIdx Idealize.ShloMosaic.Routing
open Cert.KernelIdeal Cert.KernelIdeal.Gen

theorem facts_capacity : Cert.Pre_capacity_KernelIdeal.Facts := by constructor <;> decide
theorem facts_capacity_whole : Cert.Pre_capacity_ReferenceIdeal.Facts := by constructor <;> decide

attribute [local instance] Cert.KernelIdeal.Gen.facts facts_capacity

/-- The number of set bits of column q of the mask is the number of tokens that go to expert q. -/
theorem count_at (A : IVec S2048 32) (h : S2048x8.ReducesTo [0] (⟨1, ![8]⟩ : Shape)) (hu : 0 < S_.numel) (q : Fin 8) :
    (Host.reduce IntOp.addi (onehot A) (constantI S_ 32 0#32) h hu (ix1 q)).toNat = place A (BitVec.ofNat 32 q.val) 2048 := by
  unfold onehot
  rw [StableHlo.Predicate.toNat_reduce_count_rows (n := 2048) (m := 8) (by decide) _ natLt_1_32 h hu (ix1 q)]
  refine (congrArg Finset.card (Finset.filter_congr fun p _ => ?_)).trans (card_filter_fin 2048 (goes A (BitVec.ofNat 32 q.val)))
  show IntOp.cmpi .eq (broadcastInDim S2048x8 ![0, 1] bcast_S2048x1_S2048x8_0_1 (broadcastInDim S2048x1 ![0] bcast_S2048_S2048x1_0 A) (StableHlo.Predicate.ij p q))
    (broadcastInDim S2048x8 ![0, 1] bcast_S1x8_S2048x8_0_1 (broadcastInDim S1x8 ![1] bcast_S8_S1x8_1 (iotaInDim S8 32 0)) (StableHlo.Predicate.ij p q)) = 1#1 ↔ _
  rw [ij_eq_ix2, bcRows (n := 2048) (m := 8), bcCols (n := 2048) (m := 8), IntOp.cmpi_eq, goes_iff]
  rfl

/-- The claim's capacity says that the tokens fit. -/
theorem fits (x : FVec Ideal S2048x1024 .f32) (A : IVec S2048 32) (w1 : FVec Ideal S4x1024x2048 .f32) (w2 : FVec Ideal S4x2048x1024 .f32)
    (h : Cert.Pre_capacity_KernelIdeal.fn (F := Ideal) x A w1 w2 = fun _ => 1#1) : Fits A := fun q => by
  have h' := congrFun h ix0
  have h1 := Host.reduce_andi_all (t := S_) _ _ _ _ ix0 h' (ix1 q)
  have hc := count_at A Cert.Pre_capacity_KernelIdeal.Facts.reducesTo_S2048x8_S8_d0 h_S_ q
  have hle : place A (BitVec.ofNat 32 q.val) 2048 ≤ 2048 := Nat.count_le _
  have h2 := (StableHlo.Predicate.sle_iff_toNat (a := Host.reduce IntOp.addi (onehot A) (constantI S_ 32 0#32)
    Cert.Pre_capacity_KernelIdeal.Facts.reducesTo_S2048x8_S8_d0 h_S_ (ix1 q)) (b := 320#32) (by rw [hc]; omega) (by decide)).1 h1
  rw [hc] at h2
  exact h2

end Cert.Route

end
-- ==== Proof.Device.lean ====
/-
  One device's result, entry by entry: the row of the expert the token goes to.
-/
module

public import proofs.«01_k».proof.Proof.Expert
public import proofs.«01_k».proof.Proof.Fits
public import Idealize.ShloMosaic.Lib.ValueLayout

@[expose] public section

set_option maxRecDepth 16384

noncomputable section

namespace Cert.KernelIdeal.Talk

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

attribute [local instance] Cert.KernelIdeal.Gen.facts

local notation "𝕄" => MT nD τ sig Unit (Elt F) ℕ UU ℕ

open Idealize.ShloMosaic.ValueIdx Cert.Route

/-- An expert's term: for a token that goes to it, the expert's result on its row; for another, zero. -/
theorem term_eq (I : Inp Ideal) (A : IVec S2048 32) (hA : ∀ t : Fin 2048, (I.asg : IVec S1x2048 32) (ix2 0 t) = A (ix1 t))
    (hR : ∀ t : Fin 2048, (I.rnk : IVec S1x2048 32) (ix2 0 t) = ranks A (ix1 t)) (hfit : Fits A) (e : Fin 8)
    (w1 : FVec Ideal S1024x2048 .f32) (w2 : FVec Ideal S2048x1024 .f32) (i : Fin 2048) (d : Fin 1024) :
    spread (hot I (BitVec.ofNat 32 e.val)) (ffn (pick (hot I (BitVec.ofNat 32 e.val)) I.xb) w1 w2) (ix2 i d)
      = if A (ix1 i) = BitVec.ofNat 32 e.val then
          expert (fun k => (I.xb : FVec Ideal S2048x1024 .bf16) (ix2 i k)) (fun k f => w1 (ix2 k f)) (fun f d => w2 (ix2 f d)) d
        else 0 := by
  rw [term_at]
  simp only [hA, hR]
  set w := BitVec.ofNat 32 e.val with hw
  have hlt : ∀ t : Fin 2048, A (ix1 t) = w → place A w t.val < 320 := fun t ht => lt_of_lt_of_le (place_lt A w t ht) (hfit e)
  have hrk : ∀ t : Fin 2048, A (ix1 t) = w → ∀ n < 320, ranks A (ix1 t) = BitVec.ofNat 32 n → place A w t.val = n := fun t ht n hn h => by
    rw [ranks_at A t e.val e.isLt ht, ← hw] at h
    have h' := congrArg BitVec.toNat h
    have := hlt t ht
    rwa [BitVec.toNat_ofNat, BitVec.toNat_ofNat, Nat.mod_eq_of_lt (by omega), Nat.mod_eq_of_lt (by omega)] at h'
  by_cases h : A (ix1 i) = w
  · rw [if_pos h]
    exact sum_there_and_back (fun (r : Fin 320) (t : Fin 2048) => A (ix1 t) = w ∧ ranks A (ix1 t) = BitVec.ofNat 32 r.val)
      (fun t k => (I.xb : FVec Ideal S2048x1024 .bf16) (ix2 t k)) _ _ i d ⟨place A w i.val, hlt i h⟩
      ⟨h, ranks_at A i e.val e.isLt h⟩ (fun r hr => Fin.ext (hrk i h r.val r.isLt hr.2).symm)
      (fun t ht => place_inj A w t i ht.1 h (hrk t ht.1 _ (hlt i h) ht.2))
  · rw [if_neg h]
    exact sum_absent (fun (r : Fin 320) (t : Fin 2048) => A (ix1 t) = w ∧ ranks A (ix1 t) = BitVec.ofNat 32 r.val) _ i fun r hr => h hr.1

/-- Device c holds the experts 4 y + e, and its peer the other four, for c's coordinate y on "y". -/
theorem near_word (c : Dev nD) (e : Fin 4) : near c e = BitVec.ofNat 32 (c.val / 2 % 2 * 4 + e.val) := by revert c e; decide
theorem away_word (c : Dev nD) (e : Fin 4) : away c e = BitVec.ofNat 32 ((1 - c.val / 2 % 2) * 4 + e.val) := by revert c e; decide

/-- Expert e's weights are its slice of the device's. -/
theorem w1At_at (I : Inp Ideal) (e : Fin 4) (k : Fin 1024) (f : Fin 2048) : w1At I e (ix2 k f) = I.v1 (ix3 e k f) := by
  unfold w1At
  refine (congrFun (Memref.read_squeeze_slice mV1 (rV1 e) (fun _ => rfl) squeezes_S1x1024x2048_S1024x2048 (show S1x1024x2048.ShapeCasts S1024x2048 by decide) I.v1) (ix2 k f)).trans ?_
  refine (shapeCast_dropUnit_apply (n := 2) ![1024, 2048] _ _ (ix2 k f)).trans ?_
  refine congrArg I.v1 (funext fun a => Fin.ext ?_)
  match a with
  | ⟨0, _⟩ => show e.val + 1 * 0 = e.val; omega
  | ⟨1, _⟩ => show 0 + 1 * k.val = k.val; omega
  | ⟨2, _⟩ => show 0 + 1 * f.val = f.val; omega
theorem w2At_at (I : Inp Ideal) (e : Fin 4) (f : Fin 2048) (d : Fin 1024) : w2At I e (ix2 f d) = I.v2 (ix3 e f d) := by
  unfold w2At
  refine (congrFun (Memref.read_squeeze_slice mV2 (rV2 e) (fun _ => rfl) squeezes_S1x2048x1024_S2048x1024 (show S1x2048x1024.ShapeCasts S2048x1024 by decide) I.v2) (ix2 f d)).trans ?_
  refine (shapeCast_dropUnit_apply (n := 2) ![2048, 1024] _ _ (ix2 f d)).trans ?_
  refine congrArg I.v2 (funext fun a => Fin.ext ?_)
  match a with
  | ⟨0, _⟩ => show e.val + 1 * 0 = e.val; omega
  | ⟨1, _⟩ => show 0 + 1 * f.val = f.val; omega
  | ⟨2, _⟩ => show 0 + 1 * d.val = d.val; omega

/-- The reference's choice: the last expert of the eight that the word a names, and zero for none. -/
def chosen (a : BitVec 32) (T : Fin 8 → EReal) : EReal :=
  if a = 7#32 then T 7 else if a = 6#32 then T 6 else if a = 5#32 then T 5 else if a = 4#32 then T 4 else
    if a = 3#32 then T 3 else if a = 2#32 then T 2 else if a = 1#32 then T 1 else if a = 0#32 then T 0 else 0

/-- A term of each expert that is zero unless the word names it: only the named one is left. -/
def one (a : BitVec 32) (T : Fin 8 → EReal) (e : Fin 8) : EReal := if a = BitVec.ofNat 32 e.val then T e else 0

theorem sum_one (a : BitVec 32) (T : Fin 8 → EReal) : ∑ e, one a T e = chosen a T := by
  simp only [Fin.sum_univ_eight, one, chosen]
  by_cases h7 : a = 7#32
  · subst h7; simp
  by_cases h6 : a = 6#32
  · subst h6; simp
  by_cases h5 : a = 5#32
  · subst h5; simp
  by_cases h4 : a = 4#32
  · subst h4; simp
  by_cases h3 : a = 3#32
  · subst h3; simp
  by_cases h2 : a = 2#32
  · subst h2; simp
  by_cases h1 : a = 1#32
  · subst h1; simp
  by_cases h0 : a = 0#32
  · subst h0; simp
  simp [h0, h1, h2, h3, h4, h5, h6, h7]

end Cert.KernelIdeal.Talk

end
-- ==== Proof.Value.lean ====
/-
  What the program computes: the arrays the call reads, the array it writes, and the program's result, in the arguments.
-/
module

public import proofs.«01_k».proof.Proof.Run
public import proofs.«01_k».proof.Proof.Device
public import Idealize.ShloMosaic.Lib.Pipeline.ValueKit

@[expose] public section

set_option maxRecDepth 16384

noncomputable section

namespace Cert.KernelIdeal.Talk

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

attribute [local instance] Cert.KernelIdeal.Gen.facts

local notation "𝕄" => MT nD τ sig Unit (Elt F) ℕ UU ℕ

open Idealize.ShloMosaic.Pipeline (Dat)
open Idealize.ShloMosaic.ValueIdx Cert.Route

section Arrays
variable (m : (ℓ : Loc nD τ sig) → Buf (Elt F) ℓ) (c : Dev nD)

/-- A window that is its whole array holds the array. -/
theorem block0 : iblk m c 0 t0_0 = V m c main_v1 := by
  funext y
  refine congrArg (V m c main_v1) (funext fun a => Fin.ext ?_)
  exact Pipeline.Window.rect_emb_val_of_index_zero win0_0 t0_0 a rfl y
theorem block1 : iblk m c 1 t0_0 = V m c main_v13 := by
  funext y
  refine congrArg (V m c main_v13) (funext fun a => Fin.ext ?_)
  exact Pipeline.Window.rect_emb_val_of_index_zero win0_1 t0_0 a rfl y
theorem block2 : iblk m c 2 t0_0 = V m c main_v14 := by
  funext y
  refine congrArg (V m c main_v14) (funext fun a => Fin.ext ?_)
  exact Pipeline.Window.rect_emb_val_of_index_zero win0_2 t0_0 a rfl y

/-- The call's result array ends holding the device's result. -/
theorem W₁_result : W₁ m c (Proc.devRef .tc main_v15) = result (inp m) c := by
  refine (Pipeline.afterRegion_arr (dat m c) (V0 m c) launch0.win.arr_inj 3).trans ?_
  refine (dat m c).arrAt_eq_of_after_last 3 t0_0 (by decide +kernel) (result (inp m) c) fun j => ?_
  rfl

/-- The arrays the call reads. -/
theorem V_tokens : V m c main_v1 = truncf .bf16 (m ((c : Thread nD τ).loc main_arg0)) bitsLt_bf16_f32 := by
  show Vc m c (Proc.devRef .tc main_v1) = _
  simp only [Vc, Vb, Va, V₀, hostOps0, hostOps0_1, hostOps0_2, StableHlo.TRef.nullary, StableHlo.TRef.unary, StableHlo.TRef.binary, StableHlo.TRef.toBuf, StableHlo.TRef.ofBuf, cast_eq]
  after_results_simp <;> rfl
theorem V_experts : V m c main_v13 = broadcastInDim S1x2048 ![1] bcast_S2048_S1x2048_1 (m ((c : Thread nD τ).loc main_arg1)) := by
  show Vc m c (Proc.devRef .tc main_v13) = _
  simp only [Vc, Vb, Va, V₀, hostOps0, hostOps0_1, hostOps0_2, StableHlo.TRef.nullary, StableHlo.TRef.unary, StableHlo.TRef.binary, StableHlo.TRef.toBuf, StableHlo.TRef.ofBuf, cast_eq]
  after_results_simp <;> rfl
theorem V_ranks : V m c main_v14 = broadcastInDim S1x2048 ![1] bcast_S2048_S1x2048_1 (ranks (m ((c : Thread nD τ).loc main_arg1))) := by
  show Vc m c (Proc.devRef .tc main_v14) = _
  simp only [Vc, Vb, Va, V₀, hostOps0, hostOps0_1, hostOps0_2, StableHlo.TRef.nullary, StableHlo.TRef.unary, StableHlo.TRef.binary, StableHlo.TRef.toBuf, StableHlo.TRef.ofBuf, cast_eq]
  after_results_simp <;> rfl

/-- The program's result. -/
theorem W₂_result : W₂ m c (Proc.devRef .tc main_v16) = extf .f32 (result (inp m) c) bitsLt_bf16_f32 := by
  rw [← W₁_result]
  show StableHlo.after hostOps1 (W₁ m c) (Proc.devRef .tc main_v16) = _
  simp only [hostOps1]
  after_results_simp <;> rfl
end Arrays

end Cert.KernelIdeal.Talk

end
-- ==== Proof.Whole.lean ====
/-
  The reference, entry by entry: each token's row through the expert it is assigned.
-/
module

public import proofs.«01_k».proof.Proof.Gen.ReferenceIdeal.Run
public import proofs.«01_k».proof.Proof.Device
public import Idealize.ShloMosaic.Lib.StackMember

@[expose] public section

set_option maxRecDepth 16384

noncomputable section

namespace Cert.ReferenceIdeal.Whole

open Idealize.ShloMosaic Idealize.ShloMosaic.ValueIdx Idealize.ShloMosaic.Routing Idealize.ShloMosaic.StackMember Idealize.ShloMosaic.TcCoe
open Cert.ReferenceIdeal Cert.ReferenceIdeal.Gen
open Cert.KernelIdeal.Talk (expert chosen zero_f32)

attribute [local instance] Cert.ReferenceIdeal.Gen.facts

variable (X : FVec Ideal S4096x1024 .f32) (A : IVec S4096 32) (W1 : FVec Ideal S8x1024x2048 .f32) (W2 : FVec Ideal S8x2048x1024 .f32)

/-- Token i's row through expert e, entry d. -/
def value (i : Fin 4096) (d : Fin 1024) (e : Fin 8) : EReal :=
  expert (fun k : Fin 1024 => X (ix2 i k)) (fun (k : Fin 1024) (f : Fin 2048) => W1 (ix3 e k f)) (fun (f : Fin 2048) (d : Fin 1024) => W2 (ix3 e f d)) d

/-- Slice e of a stack of eight matrices. -/
theorem slice_at {M N : ℕ} (W : (⟨3, ![8, M, N]⟩ : Shape).Idx → EReal) (e : Fin 8) (hs : (⟨3, ![8, M, N]⟩ : Shape).Slices ![e.val, 0, 0] ⟨3, ![1, M, N]⟩)
    (hc : (⟨3, ![1, M, N]⟩ : Shape).ShapeCasts ⟨2, ![M, N]⟩) (k : Fin M) (f : Fin N) :
    shapeCast ⟨2, ![M, N]⟩ (extractStridedSlice ⟨3, ![1, M, N]⟩ ![e.val, 0, 0] W hs) hc (ix2 k f) = W (ix3 e k f) := by
  refine (shapeCast_dropUnit_apply (n := 2) ![M, N] _ hc (ix2 k f)).trans ?_
  refine extractStridedSlice_apply _ W hs _ (ix3 e k f) fun a => ?_
  match a with
  | ⟨0, _⟩ => show e.val = e.val + 0; omega
  | ⟨1, _⟩ => show k.val = 0 + k.val; omega
  | ⟨2, _⟩ => show f.val = 0 + f.val; omega

/-- The whole array through expert e. -/
theorem dense_at (e : Fin 8) (h1 : S8x1024x2048.Slices ![e.val, 0, 0] S1x1024x2048) (h2 : S8x2048x1024.Slices ![e.val, 0, 0] S1x2048x1024)
    (i : Fin 4096) (d : Fin 1024) :
    Host.dotGeneral dot_S4096x2048_S2048x1024_S4096x1024_1_0_0_1_n_n none (maximumf (Host.dotGeneral dot_S4096x1024_S1024x2048_S4096x2048_1_0_0_1_n_n none X
        (shapeCast S1024x2048 (extractStridedSlice S1x1024x2048 ![e.val, 0, 0] W1 h1) shapeCasts_S1x1024x2048_S1024x2048))
        (broadcastInDim S4096x2048 ![] bcast_S_S4096x2048 (constant S_ .f32 0x00000000#32)))
      (shapeCast S2048x1024 (extractStridedSlice S1x2048x1024 ![e.val, 0, 0] W2 h2) shapeCasts_S1x2048x1024_S2048x1024) (ix2 i d) = value X W1 W2 i d e := by
  unfold value expert
  refine (dotGeneral_plain_apply (m := 4096) (k := 2048) (n := 1024) none _ _ i d).trans ?_
  refine Finset.sum_congr rfl fun f _ => ?_
  refine congrArg₂ (· * ·) ?_ (slice_at (M := 2048) (N := 1024) W2 e h2 _ f d)
  refine (congrArg (fun v => max v (Ideal.ofBits .f32 0x00000000#32)) (dotGeneral_plain_apply (m := 4096) (k := 1024) (n := 2048) none X _ i f)).trans ?_
  rw [zero_f32]
  refine congrArg (max · 0) (Finset.sum_congr rfl fun k _ => congrArg (X (ix2 i k) * ·) (slice_at (M := 1024) (N := 2048) W1 e h1 _ k f))

/-- One choice of the reference: expert e's row for the tokens assigned e, what there was before for the others. -/
theorem layer_at (e : Fin 8) (h1 : S8x1024x2048.Slices ![e.val, 0, 0] S1x1024x2048) (h2 : S8x2048x1024.Slices ![e.val, 0, 0] S1x2048x1024)
    (next : FVec Ideal S4096x1024 .f32) (i : Fin 4096) (d : Fin 1024) (v : EReal) (hn : next (ix2 i d) = v) :
    select (broadcastInDim S4096x1024 ![0, 1] bcast_S4096x1_S4096x1024_0_1 (broadcastInDim S4096x1 ![0] bcast_S4096_S4096x1_0
        (cmpi .eq A (broadcastInDim S4096 ![] bcast_S_S4096 (constantI S_ 32 (BitVec.ofNat 32 e.val))))))
      (Host.dotGeneral dot_S4096x2048_S2048x1024_S4096x1024_1_0_0_1_n_n none (maximumf (Host.dotGeneral dot_S4096x1024_S1024x2048_S4096x2048_1_0_0_1_n_n none X
        (shapeCast S1024x2048 (extractStridedSlice S1x1024x2048 ![e.val, 0, 0] W1 h1) shapeCasts_S1x1024x2048_S1024x2048))
        (broadcastInDim S4096x2048 ![] bcast_S_S4096x2048 (constant S_ .f32 0x00000000#32)))
      (shapeCast S2048x1024 (extractStridedSlice S1x2048x1024 ![e.val, 0, 0] W2 h2) shapeCasts_S1x2048x1024_S2048x1024)) next (ix2 i d)
      = if A (ix1 i) = BitVec.ofNat 32 e.val then value X W1 W2 i d e else v := by
  show (if broadcastInDim S4096x1024 ![0, 1] bcast_S4096x1_S4096x1024_0_1 (broadcastInDim S4096x1 ![0] bcast_S4096_S4096x1_0
        (cmpi .eq A (broadcastInDim S4096 ![] bcast_S_S4096 (constantI S_ 32 (BitVec.ofNat 32 e.val))))) (ix2 i d) = 1#1 then _ else _) = _
  rw [dense_at, hn, bcRows (n := 4096) (m := 1024)]
  refine if_congr ?_ rfl rfl
  show IntOp.cmpi .eq (A (ix1 i)) (BitVec.ofNat 32 e.val) = 1#1 ↔ _
  exact IntOp.cmpi_eq

/-- The reference's result. -/
theorem result_at (m : (ℓ : Loc nD τ sig) → Buf (Elt Ideal) ℓ) (c : Dev nD) (i : Fin 4096) (d : Fin 1024) :
    (Value.res_out0 m c : FVec Ideal S4096x1024 .f32) (ix2 i d)
      = chosen ((m ((c.tc : Thread nD τ).loc main_arg1) : IVec S4096 32) (ix1 i))
          (value (m ((c.tc : Thread nD τ).loc main_arg0)) (m ((c.tc : Thread nD τ).loc main_arg2)) (m ((c.tc : Thread nD τ).loc main_arg3)) i d) := by
  refine layer_at _ _ _ _ 7 _ _ _ i d _ ?_
  refine layer_at _ _ _ _ 6 _ _ _ i d _ ?_
  refine layer_at _ _ _ _ 5 _ _ _ i d _ ?_
  refine layer_at _ _ _ _ 4 _ _ _ i d _ ?_
  refine layer_at _ _ _ _ 3 _ _ _ i d _ ?_
  refine layer_at _ _ _ _ 2 _ _ _ i d _ ?_
  refine layer_at _ _ _ _ 1 _ _ _ i d _ ?_
  refine layer_at _ _ _ _ 0 _ _ _ i d _ ?_
  exact zero_f32

end Cert.ReferenceIdeal.Whole

end
-- ==== Proof.Agree.lean ====
/-
  Each device's result is its block of the reference's: its row of the expert each of its tokens goes to.
-/
module

public import proofs.«01_k».proof.Proof.Value
public import proofs.«01_k».proof.Proof.Whole

@[expose] public section

set_option maxRecDepth 16384

noncomputable section

namespace Cert.KernelIdeal.Talk

open Idealize.ShloMosaic hiding ix1 ix2 ix3
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

attribute [local instance] Cert.KernelIdeal.Gen.facts

local notation "𝕄" => MT nD τ sig Unit (Elt F) ℕ UU ℕ

open Idealize.ShloMosaic.ValueIdx Cert.Route
open Cert.ReferenceIdeal.Whole (value)

/-- Device c's coordinate on "y"; the global number of its token i and of its expert e. -/
def yOf (c : Dev nD) : ℕ := c.val / 2 % 2
theorem yOf_lt (c : Dev nD) : yOf c < 2 := Nat.mod_lt _ (by decide)
def row (c : Dev nD) (i : Fin 2048) : Fin 4096 := ⟨yOf c * 2048 + i.val, by have := yOf_lt c; omega⟩
def exp (c : Dev nD) (e : Fin 4) : Fin 8 := ⟨yOf c * 4 + e.val, by have := yOf_lt c; omega⟩
theorem near_exp (c : Dev nD) (e : Fin 4) : near c e = BitVec.ofNat 32 (exp c e).val := near_word c e
theorem away_exp (c : Dev nD) (e : Fin 4) : away c e = BitVec.ofNat 32 (exp (peer c) e).val := by
  rw [away_word]
  have h : yOf (peer c) = 1 - c.val / 2 % 2 := by revert c; decide
  show _ = BitVec.ofNat 32 (yOf (peer c) * 4 + e.val)
  rw [h]

/-- A device's experts and its peer's are all eight. -/
theorem sum_experts (c : Dev nD) (f : Fin 8 → EReal) :
    0 + f (exp c 0) + f (exp c 1) + f (exp c 2) + f (exp c 3) + f (exp (peer c) 0) + f (exp (peer c) 1) + f (exp (peer c) 2) + f (exp (peer c) 3) = ∑ e, f e := by
  have h : (∀ e : Fin 4, exp c e = ⟨e.val, by omega⟩ ∧ exp (peer c) e = ⟨4 + e.val, by omega⟩)
      ∨ (∀ e : Fin 4, exp c e = ⟨4 + e.val, by omega⟩ ∧ exp (peer c) e = ⟨e.val, by omega⟩) := by revert c; decide
  rw [Fin.sum_univ_eight, zero_add]
  rcases h with h | h
  · rw [(h 0).1, (h 1).1, (h 2).1, (h 3).1, (h 0).2, (h 1).2, (h 2).2, (h 3).2]; rfl
  · rw [(h 0).1, (h 1).1, (h 2).1, (h 3).1, (h 0).2, (h 1).2, (h 2).2, (h 3).2]
    show f 4 + f 5 + f 6 + f 7 + f 0 + f 1 + f 2 + f 3 = _
    ac_rfl

section
variable (m : (ℓ : Loc nD τ sig) → Buf (Elt Ideal) ℓ) (X : FVec Ideal ⟨2, ![4096, 1024]⟩ .f32) (A : IVec ⟨1, ![4096]⟩ 32)
  (W1 : FVec Ideal ⟨3, ![8, 1024, 2048]⟩ .f32) (W2 : FVec Ideal ⟨3, ![8, 2048, 1024]⟩ .f32)

/-- Every device's arguments are its blocks of the whole arrays. -/
structure Blocks : Prop where
  x : ∀ (c : Dev nD) (i : Fin 2048) (k : Fin 1024), (m ((c : Thread nD τ).loc main_arg0) : FVec Ideal S2048x1024 .f32) (ix2 i k) = X (ix2 (row c i) k)
  a : ∀ (c : Dev nD) (i : Fin 2048), (m ((c : Thread nD τ).loc main_arg1) : IVec S2048 32) (ix1 i) = A (ix1 (row c i))
  w1 : ∀ (c : Dev nD) (e : Fin 4) (k : Fin 1024) (f : Fin 2048),
    (m ((c : Thread nD τ).loc main_arg2) : FVec Ideal S4x1024x2048 .f32) (ix3 e k f) = W1 (ix3 (exp c e) k f)
  w2 : ∀ (c : Dev nD) (e : Fin 4) (f : Fin 2048) (d : Fin 1024),
    (m ((c : Thread nD τ).loc main_arg3) : FVec Ideal S4x2048x1024 .f32) (ix3 e f d) = W2 (ix3 (exp c e) f d)

variable (hB : Blocks m X A W1 W2) (c : Dev nD) (i : Fin 2048) (d : Fin 1024)

theorem inp_asg (t : Fin 2048) : ((inp m c).asg : IVec S1x2048 32) (ix2 0 t) = (m ((c : Thread nD τ).loc main_arg1) : IVec S2048 32) (ix1 t) := by
  show (iblk m c 1 t0_0 : IVec S1x2048 32) (ix2 0 t) = _
  rw [block1, V_experts]
  exact broadcastInDim_apply _ _ _ _ (ix1 t) fun a => by match a with | ⟨0, _⟩ => rfl
theorem inp_rnk (t : Fin 2048) : ((inp m c).rnk : IVec S1x2048 32) (ix2 0 t) = ranks (m ((c : Thread nD τ).loc main_arg1)) (ix1 t) := by
  have h : (inp m c).rnk = V m c main_v14 := by
    unfold inp; dsimp only; exact block2 (F := Ideal) m c
  rw [h, V_ranks]
  exact broadcastInDim_apply _ _ _ _ (ix1 t) fun a => by match a with | ⟨0, _⟩ => rfl
theorem inp_xb (k : Fin 1024) : ((inp m c).xb : FVec Ideal S2048x1024 .bf16) (ix2 i k) = (m ((c : Thread nD τ).loc main_arg0) : FVec Ideal S2048x1024 .f32) (ix2 i k) := by
  show (iblk m c 0 t0_0 : FVec Ideal S2048x1024 .bf16) (ix2 i k) = _
  rw [block0, V_tokens]; rfl

include hB in
/-- The term of expert e of device b for a token of device c. -/
theorem term_value (hfit : Fits (m ((c : Thread nD τ).loc main_arg1))) (b : Dev nD) (e : Fin 4) :
    spread (hot (inp m c) (BitVec.ofNat 32 (exp b e).val)) (ffn (pick (hot (inp m c) (BitVec.ofNat 32 (exp b e).val)) (inp m c).xb) (w1At (inp m b) e) (w2At (inp m b) e)) (ix2 i d)
      = one (A (ix1 (row c i))) (value X W1 W2 (row c i) d) (exp b e) := by
  rw [term_eq (inp m c) (m ((c : Thread nD τ).loc main_arg1)) (inp_asg m c) (inp_rnk m c) hfit (exp b e), hB.a]
  unfold one value
  refine if_congr Iff.rfl ?_ rfl
  have h1 : (fun k => ((inp m c).xb : FVec Ideal S2048x1024 .bf16) (ix2 i k)) = fun k : Fin 1024 => X (ix2 (row c i) k) :=
    funext fun k => (inp_xb m c i k).trans (hB.x c i k)
  have h2 : (fun (k : Fin 1024) (f : Fin 2048) => w1At (inp m b) e (ix2 k f)) = fun k f => W1 (ix3 (exp b e) k f) :=
    funext fun k => funext fun f => ((w1At_at (inp m b) e k f).trans (congrFun (V_main_arg2 m b) _)).trans (hB.w1 b e k f)
  have h3 : (fun (f : Fin 2048) (d : Fin 1024) => w2At (inp m b) e (ix2 f d)) = fun f d => W2 (ix3 (exp b e) f d) :=
    funext fun f => funext fun d => ((w2At_at (inp m b) e f d).trans (congrFun (V_main_arg3 m b) _)).trans (hB.w2 b e f d)
  rw [h1, h2, h3]

include hB in
/-- A device's result, entry by entry. -/
theorem device_value (hfit : Fits (m ((c : Thread nD τ).loc main_arg1))) :
    (W₂ m c (Proc.devRef .tc main_v16) : FVec Ideal S2048x1024 .f32) (ix2 i d) = chosen (A (ix1 (row c i))) (value X W1 W2 (row c i) d) := by
  rw [W₂_result]
  show (result (inp m) c : FVec Ideal S2048x1024 .bf16) (ix2 i d) = _
  rw [result_eq, ← sum_one, ← sum_experts c]
  have hn : ∀ e : Fin 4, homeTerm c (inp m c) e (ix2 i d) = one (A (ix1 (row c i))) (value X W1 W2 (row c i) d) (exp c e) := fun e => by
    unfold homeTerm; rw [near_exp]; exact term_value m X A W1 W2 hB c i d hfit c e
  have ha : ∀ e : Fin 4, guestTerm c (inp m) e (ix2 i d) = one (A (ix1 (row c i))) (value X W1 W2 (row c i) d) (exp (peer c) e) := fun e => by
    unfold guestTerm; rw [away_exp]; exact term_value m X A W1 W2 hB c i d hfit (peer c) e
  rw [← hn 0, ← hn 1, ← hn 2, ← hn 3, ← ha 0, ← ha 1, ← ha 2, ← ha 3, ← zero_bf16]
  rfl
end

end Cert.KernelIdeal.Talk

end
-- ==== Proof.Algebraic.lean ====
/-
  Read over the extended reals, every device's result is its block of the reference's, where the tokens fit the capacity.
-/
module

public import proofs.«01_k».proof.Proof.Agree
public import proofs.«01_k».proof.Proof.Frames

@[expose] public section

set_option maxRecDepth 16384

noncomputable section

namespace Cert.Proof

open Idealize.ShloMosaic hiding ix1 ix2 ix3
open Idealize.ShloMosaic.ValueIdx Idealize.SL.Sem Cert.KernelIdeal.Talk

attribute [local instance] Cert.KernelIdeal.Gen.facts Cert.ReferenceIdeal.Gen.facts Cert.Route.facts_capacity

/-- The block of a device along an axis cut by "y" is its coordinate there; along an axis not cut, the only one. -/
theorem block_cut (c : Dev Cert.KernelIdeal.nD) : Layout.meshLin [2, 2, 2] c.val [1] = yOf c := by revert c; decide

/-- Reading a device's block of tokens, of assignments and of experts. -/
theorem rows_at {α : Type} (c : Dev Cert.KernelIdeal.nD) (v : (⟨2, ![4096, 1024]⟩ : Shape).Idx → α) (i : Fin 2048) (k : Fin 1024) :
    Layout.blockN ⟨2, ![2048, 1024]⟩ ⟨2, ![4096, 1024]⟩ (Layout.meshBlock [2, 2, 2] ![[1], []] c) v (by decide) (ix2 i k) = v (ix2 (row c i) k) := by
  refine congrArg v (funext fun a => Fin.ext ?_)
  match a with
  | ⟨0, _⟩ => exact congrArg (· * 2048 + i.val) (block_cut c)
  | ⟨1, _⟩ => show 0 * 1024 + k.val = k.val; omega
theorem names_at {α : Type} (c : Dev Cert.KernelIdeal.nD) (v : (⟨1, ![4096]⟩ : Shape).Idx → α) (i : Fin 2048) :
    Layout.blockN ⟨1, ![2048]⟩ ⟨1, ![4096]⟩ (Layout.meshBlock [2, 2, 2] ![[1]] c) v (by decide) (ix1 i) = v (ix1 (row c i)) := by
  refine congrArg v (funext fun a => Fin.ext ?_)
  match a with
  | ⟨0, _⟩ => exact congrArg (· * 2048 + i.val) (block_cut c)
theorem first_at {α : Type} (c : Dev Cert.KernelIdeal.nD) (v : (⟨3, ![8, 1024, 2048]⟩ : Shape).Idx → α) (e : Fin 4) (k : Fin 1024) (f : Fin 2048) :
    Layout.blockN ⟨3, ![4, 1024, 2048]⟩ ⟨3, ![8, 1024, 2048]⟩ (Layout.meshBlock [2, 2, 2] ![[1], [], []] c) v (by decide) (ix3 e k f) = v (ix3 (exp c e) k f) := by
  refine congrArg v (funext fun a => Fin.ext ?_)
  match a with
  | ⟨0, _⟩ => exact congrArg (· * 4 + e.val) (block_cut c)
  | ⟨1, _⟩ => show 0 * 1024 + k.val = k.val; omega
  | ⟨2, _⟩ => show 0 * 2048 + f.val = f.val; omega
theorem second_at {α : Type} (c : Dev Cert.KernelIdeal.nD) (v : (⟨3, ![8, 2048, 1024]⟩ : Shape).Idx → α) (e : Fin 4) (f : Fin 2048) (d : Fin 1024) :
    Layout.blockN ⟨3, ![4, 2048, 1024]⟩ ⟨3, ![8, 2048, 1024]⟩ (Layout.meshBlock [2, 2, 2] ![[1], [], []] c) v (by decide) (ix3 e f d) = v (ix3 (exp c e) f d) := by
  refine congrArg v (funext fun a => Fin.ext ?_)
  match a with
  | ⟨0, _⟩ => exact congrArg (· * 4 + e.val) (block_cut c)
  | ⟨1, _⟩ => show 0 * 2048 + f.val = f.val; omega
  | ⟨2, _⟩ => show 0 * 1024 + d.val = d.val; omega

/-- The kernel and the reference agree over the extended reals. -/
theorem algebraic : Cert.algebraic_KernelIdeal_ReferenceIdeal_pre_capacity_KernelIdeal := by
  intro m g m' g' hpre hargs
  have hB : Blocks m _ _ _ _ :=
    ⟨fun c i k => (congrFun (hargs c).1 (ix2 i k)).trans (rows_at c _ i k),
      fun c i => (congrFun (hargs c).2.1 (ix1 i)).trans (names_at c _ i),
      fun c e k f => (congrFun (hargs c).2.2.1 (ix3 e k f)).trans (first_at c _ e k f),
      fun c e f d => (congrFun (hargs c).2.2.2 (ix3 e f d)).trans (second_at c _ e f d)⟩
  refine ⟨Cert.ReferenceIdeal.Value.res_out0 m' 0, ?_, ?_⟩
  · refine (θ_run Cert.KernelIdeal.defs _ _).mono (fun r h c => ⟨(h.1 c).2.2.2.2.trans ?_, (h.1 c).1, (h.1 c).2.1, (h.1 c).2.2.1, (h.1 c).2.2.2.1⟩)
      (Cert.KernelIdeal.Talk.run_main (F := Ideal) m g)
    funext j
    obtain ⟨i, d, rfl⟩ : ∃ (i : Fin 2048) (d : Fin 1024), j = ix2 i d := ⟨j 0, j 1, ValueIdx.eq_ix2 j⟩
    refine (device_value m _ _ _ _ hB c i d (Cert.Route.fits _ _ _ _ (hpre c))).trans ?_
    refine Eq.trans ?_ (rows_at c (Cert.ReferenceIdeal.Value.res_out0 m' 0) i d).symm
    exact (Cert.ReferenceIdeal.Whole.result_at m' 0 (row c i) d).symm
  · exact (θ_run Cert.ReferenceIdeal.defs _ _).mono (fun r h => h 0) (Cert.ReferenceIdeal.Value.run (F := Ideal) m' g')

end Cert.Proof

end
-- ==== Proof.lean ====
/-
  The claims together, after the programs' and the precondition's stated facts.
-/
module

public import proofs.«01_k».proof.Defs
public import proofs.«01_k».proof.Proof.Frames
public import proofs.«01_k».proof.Proof.Algebraic

@[expose] public section

noncomputable section

namespace Cert.Proof

open Idealize.ShloMosaic Idealize.SL.Sem

/-- Every claim of the certificate; a frame under the precondition is the frame without it. -/
theorem claim : Cert.Claim :=
  ⟨Cert.Kernel.Gen.facts, Cert.KernelIdeal.Gen.facts, Cert.ReferenceIdeal.Gen.facts, Cert.Route.facts_capacity, Cert.Route.facts_capacity_whole,
    frame_kernel, frame_ideal, fun m g _ => frame_ideal m g True.intro, frame_reference, fun m g _ => frame_reference m g True.intro,
    trivial, algebraic⟩

end Cert.Proof

end
